-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_evenly_spaced [hPre_evenly_spaced : Cert.Pre_evenly_spaced.Facts] (m : (ℓ : Loc Cert.KernelIdeal.nD Cert.KernelIdeal.τ Cert.KernelIdeal.sig) → Buf (Elt Ideal) ℓ) : Prop :=
  ∀ c : Dev Cert.KernelIdeal.nD,
    (Cert.Pre_evenly_spaced.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_evenly_spaced [hPre_evenly_spaced : Cert.Pre_evenly_spaced.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_evenly_spaced.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_evenly_spaced [hKernelIdeal : Cert.KernelIdeal.Facts] [hPre_evenly_spaced : Cert.Pre_evenly_spaced.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_evenly_spaced m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_evenly_spaced [hReferenceIdeal : Cert.ReferenceIdeal.Facts] [hPre_evenly_spaced : Cert.Pre_evenly_spaced.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_evenly_spaced m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_evenly_spaced [hKernelIdeal : Cert.KernelIdeal.Facts] [hReferenceIdeal : Cert.ReferenceIdeal.Facts] [hPre_evenly_spaced : Cert.Pre_evenly_spaced.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_evenly_spaced m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_evenly_spaced : Cert.Pre_evenly_spaced.Facts),
    quiescent_Kernel (hKernel := hKernel)
    ∧ quiescent_KernelIdeal (hKernelIdeal := hKernelIdeal)
    ∧ quiescent_KernelIdeal_pre_evenly_spaced (hKernelIdeal := hKernelIdeal) (hPre_evenly_spaced := hPre_evenly_spaced)
    ∧ quiescent_ReferenceIdeal (hReferenceIdeal := hReferenceIdeal)
    ∧ quiescent_ReferenceIdeal_pre_evenly_spaced (hReferenceIdeal := hReferenceIdeal) (hPre_evenly_spaced := hPre_evenly_spaced)
    ∧ preserves_Kernel_KernelIdeal
    ∧ algebraic_KernelIdeal_ReferenceIdeal_pre_evenly_spaced (hKernelIdeal := hKernelIdeal) (hReferenceIdeal := hReferenceIdeal) (hPre_evenly_spaced := hPre_evenly_spaced)
-- ==== Pre_evenly_spaced.lean ====
abbrev S65536 : Shape := ⟨1, ![65536]⟩
abbrev S1000 : Shape := ⟨1, ![1000]⟩
abbrev S999 : Shape := ⟨1, ![999]⟩
abbrev S1 : Shape := ⟨1, ![1]⟩
abbrev S_ : Shape := ⟨0, ![]⟩

class Facts : Prop where
  slices_S1000_S999_1 : S1000.Slices ![1] S999
  slices_S1000_S999_0 : S1000.Slices ![0] S999
  slices_S999_S1_0 : S999.Slices ![0] S1
  shapeCasts_S1_S_ : S1.ShapeCasts S_
  bcast_S_S999 : S_.BroadcastsInDim S999 (![] : Fin 0 → Fin S999.rank)
  reducesTo_S999_S_d0 : S999.ReducesTo [0] S_
  h_S_ : 0 < S_.numel

variable [Facts]

def fn {F : FTy → Type} [FloatOps F] (main_arg0 : FVec F S65536 .f32) (main_arg1 : FVec F S1000 .f32) : IVec S_ 1 :=
  let main_v0 : FVec F S999 .f32 := (extractStridedSlice S999 ![1] · slices_S1000_S999_1) main_arg1
  let main_v1 : FVec F S999 .f32 := (extractStridedSlice S999 ![0] · slices_S1000_S999_0) main_arg1
  let main_v2 : FVec F S999 .f32 := subf main_v0 main_v1
  let main_v3 : FVec F S1 .f32 := (extractStridedSlice S1 ![0] · slices_S999_S1_0) main_v2
  let main_v4 : FVec F S_ .f32 := shapeCast S_ main_v3 shapeCasts_S1_S_
  let main_v5 : FVec F S999 .f32 := broadcastInDim S999 ![] bcast_S_S999 main_v4
  let main_v6 : IVec S999 1 := cmpf .oeq main_v2 main_v5
  let main_c : IVec S_ 1 := constantI S_ 1 1#1
  let main_v7 : IVec S_ 1 := (fun x v => Host.reduce IntOp.andi x v reducesTo_S999_S_d0 h_S_) main_v6 main_c
  let main_v8 : FVec F S1 .f32 := (extractStridedSlice S1 ![0] · slices_S999_S1_0) main_v2
  let main_v9 : FVec F S_ .f32 := shapeCast S_ main_v8 shapeCasts_S1_S_
  let main_cst : FVec F S_ .f32 := constant S_ .f32 0x00000000#32
  let main_v10 : IVec S_ 1 := cmpf .ogt main_v9 main_cst
  let main_v11 : IVec S_ 1 := andi main_v7 main_v10
  main_v11
-- ==== Kernel.lean ====
abbrev S65536 : Shape := ⟨1, ![65536]⟩
abbrev S1000 : Shape := ⟨1, ![1000]⟩
abbrev S1 : Shape := ⟨1, ![1]⟩
abbrev S_ : Shape := ⟨0, ![]⟩
abbrev S8 : Shape := ⟨1, ![8]⟩
abbrev S16 : Shape := ⟨1, ![16]⟩
abbrev S1040 : Shape := ⟨1, ![1040]⟩
abbrev S2048 : Shape := ⟨1, ![2048]⟩

abbrev nBuf : Table → Nat
  | .hbm => 16
  | .local .scVector .vmem => 3
  | _ => 0

abbrev bufTy : (tb : Table) → Fin (nBuf tb) → BufTy
  | .hbm, ⟨0, _⟩ => ⟨S65536, .f32⟩
  | .hbm, ⟨1, _⟩ => ⟨S1000, .f32⟩
  | .hbm, ⟨2, _⟩ => ⟨S1, .f32⟩
  | .hbm, ⟨3, _⟩ => ⟨S_, .f32⟩
  | .hbm, ⟨4, _⟩ => ⟨S1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S1040, .f32⟩
  | .hbm, ⟨15, _⟩ => ⟨S65536, .f32⟩
  | .local .scVector .vmem, ⟨0, _⟩ => ⟨S2048, .f32⟩
  | .local .scVector .vmem, ⟨1, _⟩ => ⟨S2048, .f32⟩
  | .local .scVector .vmem, ⟨2, _⟩ => ⟨S1040, .f32⟩
  | _, _ => ⟨S65536, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_arg0_scv : Ref sig .scVector := ⟨.hbm, 0, rfl⟩
abbrev main_v10_scv : Ref sig .scVector := ⟨.hbm, 14, rfl⟩
abbrev main_v11_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
@[reducible] def k0_t1_loop : Scf.Loop 32 :=
  let c0_i32 : BitVec 32 := 0#32
  let c128_i32 : BitVec 32 := 128#32
  let v9 : BitVec 32 := Scalar.addi c0_i32 c128_i32
  let c1_i32 : BitVec 32 := 1#32
  ⟨c0_i32, v9, c1_i32⟩
def k0_off2 (k0_t1 : Fin k0_t1_loop.trips) : Fin 1 → Nat :=
  let c0_i32_1 : BitVec 32 := 0#32
  let c0_i32 : BitVec 32 := 0#32
  let c1_i32 : BitVec 32 := 1#32
  let arg12 : BitVec 32 := Scf.iv c0_i32 c1_i32 k0_t1
  let c16_i32 : BitVec 32 := 16#32
  let v10 : BitVec 32 := Scalar.muli arg12 c16_i32
  let v11 : BitVec 32 := Scalar.addi c0_i32_1 v10
  let v12 : Index := Scalar.indexCast v11
  ![v12.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536 : Shape := ⟨1, ![65536]⟩
abbrev S1000 : Shape := ⟨1, ![1000]⟩
abbrev S1x65536 : Shape := ⟨2, ![1, 65536]⟩
abbrev S1000x1 : Shape := ⟨2, ![1000, 1]⟩
abbrev S1000x65536 : Shape := ⟨2, ![1000, 65536]⟩
abbrev S_ : Shape := ⟨0, ![]⟩
abbrev S65536x1 : Shape := ⟨2, ![65536, 1]⟩

abbrev nBuf : Space → Nat
  | .hbm => 68
  | .vmem => 0
  | .smem => 0
  | _ => 0

abbrev bufTy : (tb : Table) → Fin (tcTables nBuf tb) → BufTy
  | .hbm, ⟨0, _⟩ => ⟨S65536, .f32⟩
  | .hbm, ⟨1, _⟩ => ⟨S1000, .f32⟩
  | .hbm, ⟨2, _⟩ => ⟨S65536, .f32⟩
  | .hbm, ⟨3, _⟩ => ⟨S1x65536, .f32⟩
  | .hbm, ⟨4, _⟩ => ⟨S1000x1, .f32⟩
  | .hbm, ⟨5, _⟩ => ⟨S1000x65536, .f32⟩
  | .hbm, ⟨6, _⟩ => ⟨S1000x65536, .f32⟩
  | .hbm, ⟨7, _⟩ => ⟨S1000x65536, .f32⟩
  | .hbm, ⟨8, _⟩ => ⟨S_, .f32⟩
  | .hbm, ⟨9, _⟩ => ⟨S1000x65536, .f32⟩
  | .hbm, ⟨10, _⟩ => ⟨S1000x65536, .i1⟩
  | .hbm, ⟨11, _⟩ => ⟨S1000x65536, .i32⟩
  | .hbm, ⟨12, _⟩ => ⟨S_, .i32⟩
  | .hbm, ⟨13, _⟩ => ⟨S_, .i32⟩
  | .hbm, ⟨14, _⟩ => ⟨S1000x65536, .i32⟩
  | .hbm, ⟨15, _⟩ => ⟨S1000x65536, .i32⟩
  | .hbm, ⟨16, _⟩ => ⟨S_, .i32⟩
  | .hbm, ⟨17, _⟩ => ⟨S_, .i32⟩
  | .hbm, ⟨18, _⟩ => ⟨S65536, .i32⟩
  | .hbm, ⟨19, _⟩ => ⟨S65536, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S_, .i32⟩
  | .hbm, ⟨26, _⟩ => ⟨S65536, .i32⟩
  | .hbm, ⟨27, _⟩ => ⟨S65536, .i32⟩
  | .hbm, ⟨28, _⟩ => ⟨S_, .i32⟩
  | .hbm, ⟨29, _⟩ => ⟨S65536, .i32⟩
  | .hbm, ⟨30, _⟩ => ⟨S65536, .i32⟩
  | .hbm, ⟨31, _⟩ => ⟨S_, .i32⟩
  | .hbm, ⟨32, _⟩ => ⟨S65536, .i32⟩
  | .hbm, ⟨33, _⟩ => ⟨S65536, .i1⟩
  | .hbm, ⟨34, _⟩ => ⟨S_, .i32⟩
  | .hbm, ⟨35, _⟩ => ⟨S65536, .i32⟩
  | .hbm, ⟨36, _⟩ => ⟨S65536, .i32⟩
  | .hbm, ⟨37, _⟩ => ⟨S65536, .i32⟩
  | .hbm, ⟨38, _⟩ => ⟨S65536x1, .i32⟩
  | .hbm, ⟨39, _⟩ => ⟨S65536, .f32⟩
  | .hbm, ⟨40, _⟩ => ⟨S_, .i32⟩
  | .hbm, ⟨41, _⟩ => ⟨S65536, .i32⟩
  | .hbm, ⟨42, _⟩ => ⟨S65536, .i1⟩
  | .hbm, ⟨43, _⟩ => ⟨S_, .i32⟩
  | .hbm, ⟨44, _⟩ => ⟨S65536, .i32⟩
  | .hbm, ⟨45, _⟩ => ⟨S65536, .i32⟩
  | .hbm, ⟨46, _⟩ => ⟨S65536, .i32⟩
  | .hbm, ⟨47, _⟩ => ⟨S65536x1, .i32⟩
  | .hbm, ⟨48, _⟩ => ⟨S65536, .f32⟩
  | .hbm, ⟨49, _⟩ => ⟨S65536, .f32⟩
  | .hbm, ⟨50, _⟩ => ⟨S65536, .f32⟩
  | .hbm, ⟨51, _⟩ => ⟨S65536, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S65536, .f32⟩
  | .hbm, ⟨56, _⟩ => ⟨S65536, .f32⟩
  | .hbm, ⟨57, _⟩ => ⟨S_, .f32⟩
  | .hbm, ⟨58, _⟩ => ⟨S65536, .f32⟩
  | .hbm, ⟨59, _⟩ => ⟨S65536, .f32⟩
  | .hbm, ⟨60, _⟩ => ⟨S_, .f32⟩
  | .hbm, ⟨61, _⟩ => ⟨S65536, .f32⟩
  | .hbm, ⟨62, _⟩ => ⟨S65536, .f32⟩
  | .hbm, ⟨63, _⟩ => ⟨S65536, .f32⟩
  | .hbm, ⟨64, _⟩ => ⟨S65536, .f32⟩
  | .hbm, ⟨65, _⟩ => ⟨S65536, .f32⟩
  | .hbm, ⟨66, _⟩ => ⟨S65536, .f32⟩
  | .hbm, ⟨67, _⟩ => ⟨S65536, .f32⟩
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_call0_c : Ref sig .tc := ⟨.hbm, 12, rfl⟩
abbrev main_call0_call0_v0 : Ref sig .tc := ⟨.hbm, 13, rfl⟩
abbrev main_v9 : Ref sig .tc := ⟨.hbm, 14, rfl⟩
abbrev main_call1_v0 : Ref sig .tc := ⟨.hbm, 15, rfl⟩
abbrev main_call1_c : Ref sig .tc := ⟨.hbm, 16, rfl⟩
abbrev main_call1_c_0 : Ref sig .tc := ⟨.hbm, 17, rfl⟩
abbrev main_call1_v1_0 : Ref sig .tc := ⟨.hbm, 18, rfl⟩
abbrev main_v10 : Ref sig .tc := ⟨.hbm, 19, rfl⟩
abbrev main_c : Ref sig .tc := ⟨.hbm, 20, rfl⟩
abbrev main_c_0 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_cst_7 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_v31 : Ref sig .tc := ⟨.hbm, 59, rfl⟩
abbrev main_cst_8 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩

abbrev nD : Nat := 1
abbrev τ : Topo := Topo.v7x

variable {F : FTy → Type} [FloatOps F]
-- ==== Proof.Ref.lean ====
/-
  The reference's run: host operations on the TensorCore, no kernel. The operations stand in four parts, each read at the arrays that a later part reads: the marks
  and their running sums, the index and the one after it, the two table entries, and the interpolation. `out_eq` puts them together.
-/
module

public import proofs.«01_k».proof.Defs
public import Idealize.ShloMosaic.Lib.StableHlo.Run
public import Idealize.ShloMosaic.Lib.StableHlo.RunRead
public import Idealize.ShloMosaic.Lib.StableHlo.RunHlo
public import Idealize.ShloMosaic.Lib.Pipeline.Value
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The operations -/

/-- The table compared with the logarithms, and the running sums of the marks down the table. -/
def marks : List (HloOp τ sig (Elt F)) :=
  [ StableHlo.unary main_arg0 main_v0 (Host.log : (⟨S65536, .f32⟩ : BufTy).Contents (Elt F) → (⟨S65536, .f32⟩ : BufTy).Contents (Elt F)),
    StableHlo.unary main_v0 main_v1 (broadcastInDim S1x65536 ![1] bcast_S65536_S1x65536_1 : (⟨S65536, .f32⟩ : BufTy).Contents (Elt F) → (⟨S1x65536, .f32⟩ : BufTy).Contents (Elt F)),
    StableHlo.unary main_arg1 main_v2 (broadcastInDim S1000x1 ![0] bcast_S1000_S1000x1_0 : (⟨S1000, .f32⟩ : BufTy).Contents (Elt F) → (⟨S1000x1, .f32⟩ : BufTy).Contents (Elt F)),
    StableHlo.unary main_v1 main_v3 (broadcastInDim S1000x65536 ![0, 1] bcast_S1x65536_S1000x65536_0_1 : (⟨S1x65536, .f32⟩ : BufTy).Contents (Elt F) → (⟨S1000x65536, .f32⟩ : BufTy).Contents (Elt F)),
    StableHlo.unary main_v2 main_v4 (broadcastInDim S1000x65536 ![0, 1] bcast_S1000x1_S1000x65536_0_1 : (⟨S1000x1, .f32⟩ : BufTy).Contents (Elt F) → (⟨S1000x65536, .f32⟩ : BufTy).Contents (Elt F)),
    StableHlo.binary main_v3 main_v4 main_v5 (subf : (⟨S1000x65536, .f32⟩ : BufTy).Contents (Elt F) → (⟨S1000x65536, .f32⟩ : BufTy).Contents (Elt F) → (⟨S1000x65536, .f32⟩ : BufTy).Contents (Elt F)),
    StableHlo.nullary main_cst (constant S_ .f32 0x00000000#32),
    StableHlo.unary main_cst main_v6 (broadcastInDim S1000x65536 ![] bcast_S_S1000x65536 : (⟨S_, .f32⟩ : BufTy).Contents (Elt F) → (⟨S1000x65536, .f32⟩ : BufTy).Contents (Elt F)),
    StableHlo.binary main_v5 main_v6 main_v7 (cmpf .oge : (⟨S1000x65536, .f32⟩ : BufTy).Contents (Elt F) → (⟨S1000x65536, .f32⟩ : BufTy).Contents (Elt F) → (⟨S1000x65536, .i1⟩ : BufTy).Contents (Elt F)),
    StableHlo.unary main_v7 main_v8 ((extui 32 · natLt_1_32) : (⟨S1000x65536, .i1⟩ : BufTy).Contents (Elt F) → (⟨S1000x65536, .i32⟩ : BufTy).Contents (Elt F)),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v8 : StableHlo.TRef sig ⟨S1000x65536, .i32⟩) (.of main_call0_call0_v0 : StableHlo.TRef sig ⟨S_, .i32⟩) (.of main_v9 : StableHlo.TRef sig ⟨S1000x65536, .i32⟩) (fun x v => Host.reduceWindow IntOp.addi ![1000, 1] ![1, 1] ![999, 0] ![0, 0] x v reduceWindows_S1000x65536_S1000x65536_w1000s1p999_0_w1s1p0_0 h_S_) ]

/-- The arg-max of the running sums, clipped, and the index after it. -/
def find : List (HloOp τ sig (Elt F)) :=
  [ StableHlo.TRef.nullary (.of main_call1_v0 : StableHlo.TRef sig ⟨S1000x65536, .i32⟩) (iotaInDim S1000x65536 32 0),
    StableHlo.TRef.nullary (.of main_call1_c : StableHlo.TRef sig ⟨S_, .i32⟩) (constantI S_ 32 2147483648#32),
    StableHlo.TRef.nullary (.of main_call1_c_0 : StableHlo.TRef sig ⟨S_, .i32⟩) (constantI S_ 32 0#32),
    StableHlo.TRef.quaternary (.of main_v9 : StableHlo.TRef sig ⟨S1000x65536, .i32⟩) (.of main_call1_v0 : StableHlo.TRef sig ⟨S1000x65536, .i32⟩) (.of main_call1_c : StableHlo.TRef sig ⟨S_, .i32⟩) (.of main_call1_c_0 : StableHlo.TRef sig ⟨S_, .i32⟩) (.of main_call1_v1_0 : StableHlo.TRef sig ⟨S65536, .i32⟩) (fun x y u v j => (Host.reduce2 reducer_argmax_i32_i32 x y u v reducesTo_S1000x65536_S65536_d0 h_S_ j).1),
    StableHlo.TRef.quaternary (.of main_v9 : StableHlo.TRef sig ⟨S1000x65536, .i32⟩) (.of main_call1_v0 : StableHlo.TRef sig ⟨S1000x65536, .i32⟩) (.of main_call1_c : StableHlo.TRef sig ⟨S_, .i32⟩) (.of main_call1_c_0 : StableHlo.TRef sig ⟨S_, .i32⟩) (.of main_v10 : StableHlo.TRef sig ⟨S65536, .i32⟩) (fun x y u v j => (Host.reduce2 reducer_argmax_i32_i32 x y u v reducesTo_S1000x65536_S65536_d0 h_S_ j).2),
    StableHlo.nullary main_c (constantI S_ 32 0#32),
    StableHlo.nullary main_c_0 (constantI S_ 32 998#32),
    StableHlo.TRef.unary (.of main_c : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S65536, .i32⟩) (broadcastInDim S65536 ![] bcast_S_S65536),
    StableHlo.TRef.binary (.of main_call2_v1 : StableHlo.TRef sig ⟨S65536, .i32⟩) (.of main_v10 : StableHlo.TRef sig ⟨S65536, .i32⟩) (.of main_call2_v2 : StableHlo.TRef sig ⟨S65536, .i32⟩) maxsi,
    StableHlo.TRef.unary (.of main_c_0 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S65536, .i32⟩) (broadcastInDim S65536 ![] bcast_S_S65536),
    StableHlo.TRef.binary (.of main_call2_v4 : StableHlo.TRef sig ⟨S65536, .i32⟩) (.of main_call2_v2 : StableHlo.TRef sig ⟨S65536, .i32⟩) (.of main_v11 : StableHlo.TRef sig ⟨S65536, .i32⟩) minsi,
    StableHlo.nullary main_c_1 (constantI S_ 32 1#32),
    StableHlo.unary main_c_1 main_v12 (broadcastInDim S65536 ![] bcast_S_S65536 : (⟨S_, .i32⟩ : BufTy).Contents (Elt F) → (⟨S65536, .i32⟩ : BufTy).Contents (Elt F)),
    StableHlo.binary main_v11 main_v12 main_v13 (addi : (⟨S65536, .i32⟩ : BufTy).Contents (Elt F) → (⟨S65536, .i32⟩ : BufTy).Contents (Elt F) → (⟨S65536, .i32⟩ : BufTy).Contents (Elt F)) ]

/-- The two table entries. -/
def take : List (HloOp τ sig (Elt F)) :=
  [ StableHlo.nullary main_c_2 (constantI S_ 32 0#32),
    StableHlo.unary main_c_2 main_v14 (broadcastInDim S65536 ![] bcast_S_S65536 : (⟨S_, .i32⟩ : BufTy).Contents (Elt F) → (⟨S65536, .i32⟩ : BufTy).Contents (Elt F)),
    StableHlo.binary main_v11 main_v14 main_v15 (cmpi .slt : (⟨S65536, .i32⟩ : BufTy).Contents (Elt F) → (⟨S65536, .i32⟩ : BufTy).Contents (Elt F) → (⟨S65536, .i1⟩ : BufTy).Contents (Elt F)),
    StableHlo.nullary main_c_3 (constantI S_ 32 1000#32),
    StableHlo.unary main_c_3 main_v16 (broadcastInDim S65536 ![] bcast_S_S65536 : (⟨S_, .i32⟩ : BufTy).Contents (Elt F) → (⟨S65536, .i32⟩ : BufTy).Contents (Elt F)),
    StableHlo.binary main_v11 main_v16 main_v17 (addi : (⟨S65536, .i32⟩ : BufTy).Contents (Elt F) → (⟨S65536, .i32⟩ : BufTy).Contents (Elt F) → (⟨S65536, .i32⟩ : BufTy).Contents (Elt F)),
    StableHlo.ternary main_v15 main_v17 main_v11 main_v18 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v18 main_v19 (broadcastInDim S65536x1 ![0] bcast_S65536_S65536x1_0 : (⟨S65536, .i32⟩ : BufTy).Contents (Elt F) → (⟨S65536x1, .i32⟩ : BufTy).Contents (Elt F)),
    StableHlo.binary main_arg1 main_v19 main_v20 ((fun x i => Host.gather gather_S1000_S65536x1_S65536_n_0_n_n_0_1_1 x i) : (⟨S1000, .f32⟩ : BufTy).Contents (Elt F) → (⟨S65536x1, .i32⟩ : BufTy).Contents (Elt F) → (⟨S65536, .f32⟩ : BufTy).Contents (Elt F)),
    StableHlo.nullary main_c_4 (constantI S_ 32 0#32),
    StableHlo.unary main_c_4 main_v21 (broadcastInDim S65536 ![] bcast_S_S65536 : (⟨S_, .i32⟩ : BufTy).Contents (Elt F) → (⟨S65536, .i32⟩ : BufTy).Contents (Elt F)),
    StableHlo.binary main_v13 main_v21 main_v22 (cmpi .slt : (⟨S65536, .i32⟩ : BufTy).Contents (Elt F) → (⟨S65536, .i32⟩ : BufTy).Contents (Elt F) → (⟨S65536, .i1⟩ : BufTy).Contents (Elt F)),
    StableHlo.nullary main_c_5 (constantI S_ 32 1000#32),
    StableHlo.unary main_c_5 main_v23 (broadcastInDim S65536 ![] bcast_S_S65536 : (⟨S_, .i32⟩ : BufTy).Contents (Elt F) → (⟨S65536, .i32⟩ : BufTy).Contents (Elt F)),
    StableHlo.binary main_v13 main_v23 main_v24 (addi : (⟨S65536, .i32⟩ : BufTy).Contents (Elt F) → (⟨S65536, .i32⟩ : BufTy).Contents (Elt F) → (⟨S65536, .i32⟩ : BufTy).Contents (Elt F)),
    StableHlo.ternary main_v22 main_v24 main_v13 main_v25 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v25 main_v26 (broadcastInDim S65536x1 ![0] bcast_S65536_S65536x1_0 : (⟨S65536, .i32⟩ : BufTy).Contents (Elt F) → (⟨S65536x1, .i32⟩ : BufTy).Contents (Elt F)),
    StableHlo.binary main_arg1 main_v26 main_v27 ((fun x i => Host.gather gather_S1000_S65536x1_S65536_n_0_n_n_0_1_1 x i) : (⟨S1000, .f32⟩ : BufTy).Contents (Elt F) → (⟨S65536x1, .i32⟩ : BufTy).Contents (Elt F) → (⟨S65536, .f32⟩ : BufTy).Contents (Elt F)) ]

/-- The weight and the interpolated index. -/
def mix : List (HloOp τ sig (Elt F)) :=
  [ StableHlo.binary main_v20 main_v0 main_v28 (subf : (⟨S65536, .f32⟩ : BufTy).Contents (Elt F) → (⟨S65536, .f32⟩ : BufTy).Contents (Elt F) → (⟨S65536, .f32⟩ : BufTy).Contents (Elt F)),
    StableHlo.binary main_v20 main_v27 main_v29 (subf : (⟨S65536, .f32⟩ : BufTy).Contents (Elt F) → (⟨S65536, .f32⟩ : BufTy).Contents (Elt F) → (⟨S65536, .f32⟩ : BufTy).Contents (Elt F)),
    StableHlo.binary main_v28 main_v29 main_v30 (Host.divf : (⟨S65536, .f32⟩ : BufTy).Contents (Elt F) → (⟨S65536, .f32⟩ : BufTy).Contents (Elt F) → (⟨S65536, .f32⟩ : BufTy).Contents (Elt F)),
    StableHlo.nullary main_cst_6 (constant S_ .f32 0x00000000#32),
    StableHlo.nullary main_cst_7 (constant S_ .f32 0x3F800000#32),
    StableHlo.TRef.unary (.of main_cst_6 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S65536, .f32⟩) (broadcastInDim S65536 ![] bcast_S_S65536),
    StableHlo.TRef.binary (.of main_call3_v1 : StableHlo.TRef sig ⟨S65536, .f32⟩) (.of main_v30 : StableHlo.TRef sig ⟨S65536, .f32⟩) (.of main_call3_v2 : StableHlo.TRef sig ⟨S65536, .f32⟩) maximumf,
    StableHlo.TRef.unary (.of main_cst_7 : StableHlo.TRef sig ⟨S_, .f32⟩) (.of main_call3_v3 : StableHlo.TRef sig ⟨S_, .f32⟩) id,
    StableHlo.TRef.unary (.of main_call3_v3 : StableHlo.TRef sig ⟨S_, .f32⟩) (.of main_call3_v4 : StableHlo.TRef sig ⟨S65536, .f32⟩) (broadcastInDim S65536 ![] bcast_S_S65536),
    StableHlo.TRef.binary (.of main_call3_v4 : StableHlo.TRef sig ⟨S65536, .f32⟩) (.of main_call3_v2 : StableHlo.TRef sig ⟨S65536, .f32⟩) (.of main_v31 : StableHlo.TRef sig ⟨S65536, .f32⟩) minimumf,
    StableHlo.nullary main_cst_8 (constant S_ .f32 0x3F800000#32),
    StableHlo.unary main_cst_8 main_v32 (broadcastInDim S65536 ![] bcast_S_S65536 : (⟨S_, .f32⟩ : BufTy).Contents (Elt F) → (⟨S65536, .f32⟩ : BufTy).Contents (Elt F)),
    StableHlo.binary main_v32 main_v31 main_v33 (subf : (⟨S65536, .f32⟩ : BufTy).Contents (Elt F) → (⟨S65536, .f32⟩ : BufTy).Contents (Elt F) → (⟨S65536, .f32⟩ : BufTy).Contents (Elt F)),
    StableHlo.unary main_v11 main_v34 (sitofp .f32 : (⟨S65536, .i32⟩ : BufTy).Contents (Elt F) → (⟨S65536, .f32⟩ : BufTy).Contents (Elt F)),
    StableHlo.binary main_v33 main_v34 main_v35 (mulf : (⟨S65536, .f32⟩ : BufTy).Contents (Elt F) → (⟨S65536, .f32⟩ : BufTy).Contents (Elt F) → (⟨S65536, .f32⟩ : BufTy).Contents (Elt F)),
    StableHlo.unary main_v13 main_v36 (sitofp .f32 : (⟨S65536, .i32⟩ : BufTy).Contents (Elt F) → (⟨S65536, .f32⟩ : BufTy).Contents (Elt F)),
    StableHlo.binary main_v31 main_v36 main_v37 (mulf : (⟨S65536, .f32⟩ : BufTy).Contents (Elt F) → (⟨S65536, .f32⟩ : BufTy).Contents (Elt F) → (⟨S65536, .f32⟩ : BufTy).Contents (Elt F)),
    StableHlo.binary main_v35 main_v37 main_v38 (addf : (⟨S65536, .f32⟩ : BufTy).Contents (Elt F) → (⟨S65536, .f32⟩ : BufTy).Contents (Elt F) → (⟨S65536, .f32⟩ : BufTy).Contents (Elt F)) ]

/-- The reference's operations, in order. -/
def ops : List (HloOp τ sig (Elt F)) := marks ++ (find ++ (take ++ mix))

set_option maxRecDepth 4096 in
/-- The called functions' bodies in their places. -/
theorem main_eq (d : Dev nD) : main (F := F) d = seq ops := by
  unfold ops marks find take mix
  simp only [main, fn_cumsum.body, fn_cumsum_0.body, fn_argmax.body, fn_clip.body, fn_clip_1.body, List.cons_append, List.nil_append, seq, bind_assoc, pure_bind]

/-! ## What they compute -/

variable (V : Valuation τ sig (Elt F))

/-- Whether a query's logarithm is at least a table entry, as a 0 or a 1, row per table entry. -/
def markA (s : S65536.Idx → F .f32) (t : S1000.Idx → F .f32) : S1000x65536.Idx → BitVec 32 :=
  extui 32 (cmpf .oge (subf (broadcastInDim S1000x65536 ![0, 1] bcast_S1x65536_S1000x65536_0_1 (broadcastInDim S1x65536 ![1] bcast_S65536_S1x65536_1 (Host.log s)))
    (broadcastInDim S1000x65536 ![0, 1] bcast_S1000x1_S1000x65536_0_1 (broadcastInDim S1000x1 ![0] bcast_S1000_S1000x1_0 t)))
    (broadcastInDim S1000x65536 ![] bcast_S_S1000x65536 (constant (F := F) S_ .f32 0x00000000#32))) natLt_1_32
/-- Their running sums. -/
def sumA (x : S1000x65536.Idx → BitVec 32) : S1000x65536.Idx → BitVec 32 :=
  Host.reduceWindow IntOp.addi ![1000, 1] ![1, 1] ![999, 0] ![0, 0] x (broadcastInDim S_ ![] bcast_S_S_ (constantI S_ 32 0#32)) reduceWindows_S1000x65536_S1000x65536_w1000s1p999_0_w1s1p0_0 h_S_
/-- The first row at which a column is greatest. -/
def argA (x : S1000x65536.Idx → BitVec 32) : S65536.Idx → BitVec 32 := fun j =>
  (Host.reduce2 reducer_argmax_i32_i32 x (iotaInDim S1000x65536 32 0) (constantI S_ 32 2147483648#32) (constantI S_ 32 0#32) reducesTo_S1000x65536_S65536_d0 h_S_ j).2
/-- An index brought between 0 and 998. -/
def lowA (x : S65536.Idx → BitVec 32) : S65536.Idx → BitVec 32 :=
  minsi (broadcastInDim S65536 ![] bcast_S_S65536 (constantI S_ 32 998#32)) (maxsi (broadcastInDim S65536 ![] bcast_S_S65536 (constantI S_ 32 0#32)) x)
/-- The index after. -/
def nextA (x : S65536.Idx → BitVec 32) : S65536.Idx → BitVec 32 := addi x (broadcastInDim S65536 ![] bcast_S_S65536 (constantI S_ 32 1#32))
/-- The table's entries at the indices, an index below zero counted from the end. -/
def takeA (t : S1000.Idx → F .f32) (x : S65536.Idx → BitVec 32) : S65536.Idx → F .f32 :=
  Host.gather gather_S1000_S65536x1_S65536_n_0_n_n_0_1_1 t (broadcastInDim S65536x1 ![0] bcast_S65536_S65536x1_0
    (select (cmpi .slt x (broadcastInDim S65536 ![] bcast_S_S65536 (constantI S_ 32 0#32))) (addi x (broadcastInDim S65536 ![] bcast_S_S65536 (constantI S_ 32 1000#32))) x))
/-- The weight of the upper entry: where the logarithm lies between the two entries, brought between 0 and 1. -/
def weightA (lg lo hi : S65536.Idx → F .f32) : S65536.Idx → F .f32 :=
  minimumf (broadcastInDim S65536 ![] bcast_S_S65536 (constant (F := F) S_ .f32 0x3F800000#32))
    (maximumf (broadcastInDim S65536 ![] bcast_S_S65536 (constant (F := F) S_ .f32 0x00000000#32)) (Host.divf (subf lo lg) (subf lo hi)))
/-- The interpolated index. -/
def mixA (w : S65536.Idx → F .f32) (i j : S65536.Idx → BitVec 32) : S65536.Idx → F .f32 :=
  addf (mulf (subf (broadcastInDim S65536 ![] bcast_S_S65536 (constant (F := F) S_ .f32 0x3F800000#32)) w) (sitofp .f32 i)) (mulf w (sitofp .f32 j))

theorem marks_v9 : after (marks (F := F)) V (Proc.devRef .tc main_v9) = sumA (markA (V (Proc.devRef .tc main_arg0)) (V (Proc.devRef .tc main_arg1))) := by
  unfold marks; after_reads_simp
  unfold sumA markA
  simp -implicitDefEqProofs only [TRef.toBuf, TRef.ofBuf, cast_cast, cast_eq, id_eq]
theorem marks_v0 : after (marks (F := F)) V (Proc.devRef .tc main_v0) = Host.log (V (Proc.devRef .tc main_arg0) : S65536.Idx → F .f32) := by
  unfold marks; after_reads_simp
theorem marks_arg0 : after (marks (F := F)) V (Proc.devRef .tc main_arg0) = V (Proc.devRef .tc main_arg0) := by
  unfold marks; after_reads_simp
theorem marks_arg1 : after (marks (F := F)) V (Proc.devRef .tc main_arg1) = V (Proc.devRef .tc main_arg1) := by
  unfold marks; after_reads_simp

theorem find_v11 : after (find (F := F)) V (Proc.devRef .tc main_v11) = lowA (argA (V (Proc.devRef .tc main_v9))) := by
  unfold find; after_reads_simp
  unfold lowA argA
  simp -implicitDefEqProofs only [TRef.toBuf, TRef.ofBuf, cast_cast, cast_eq, id_eq]
theorem find_v13 : after (find (F := F)) V (Proc.devRef .tc main_v13) = nextA (lowA (argA (V (Proc.devRef .tc main_v9)))) := by
  unfold find; after_reads_simp
  unfold nextA lowA argA
  simp -implicitDefEqProofs only [TRef.toBuf, TRef.ofBuf, cast_cast, cast_eq, id_eq]
theorem find_v0 : after (find (F := F)) V (Proc.devRef .tc main_v0) = V (Proc.devRef .tc main_v0) := by
  unfold find; after_reads_simp
theorem find_arg0 : after (find (F := F)) V (Proc.devRef .tc main_arg0) = V (Proc.devRef .tc main_arg0) := by
  unfold find; after_reads_simp
theorem find_arg1 : after (find (F := F)) V (Proc.devRef .tc main_arg1) = V (Proc.devRef .tc main_arg1) := by
  unfold find; after_reads_simp

theorem take_v20 : after (take (F := F)) V (Proc.devRef .tc main_v20) = takeA (V (Proc.devRef .tc main_arg1)) (V (Proc.devRef .tc main_v11)) := by
  unfold take; after_reads_simp; rfl
theorem take_v27 : after (take (F := F)) V (Proc.devRef .tc main_v27) = takeA (V (Proc.devRef .tc main_arg1)) (V (Proc.devRef .tc main_v13)) := by
  unfold take; after_reads_simp; rfl
theorem take_v0 : after (take (F := F)) V (Proc.devRef .tc main_v0) = V (Proc.devRef .tc main_v0) := by
  unfold take; after_reads_simp
theorem take_v11 : after (take (F := F)) V (Proc.devRef .tc main_v11) = V (Proc.devRef .tc main_v11) := by
  unfold take; after_reads_simp
theorem take_v13 : after (take (F := F)) V (Proc.devRef .tc main_v13) = V (Proc.devRef .tc main_v13) := by
  unfold take; after_reads_simp
theorem take_arg0 : after (take (F := F)) V (Proc.devRef .tc main_arg0) = V (Proc.devRef .tc main_arg0) := by
  unfold take; after_reads_simp
theorem take_arg1 : after (take (F := F)) V (Proc.devRef .tc main_arg1) = V (Proc.devRef .tc main_arg1) := by
  unfold take; after_reads_simp

theorem mix_v38 : after (mix (F := F)) V (Proc.devRef .tc main_v38)
    = mixA (weightA (V (Proc.devRef .tc main_v0)) (V (Proc.devRef .tc main_v20)) (V (Proc.devRef .tc main_v27))) (V (Proc.devRef .tc main_v11)) (V (Proc.devRef .tc main_v13)) := by
  unfold mix; after_reads_simp
  unfold mixA weightA
  simp -implicitDefEqProofs only [TRef.toBuf, TRef.ofBuf, cast_cast, cast_eq, id_eq]
theorem mix_arg0 : after (mix (F := F)) V (Proc.devRef .tc main_arg0) = V (Proc.devRef .tc main_arg0) := by
  unfold mix; after_reads_simp
theorem mix_arg1 : after (mix (F := F)) V (Proc.devRef .tc main_arg1) = V (Proc.devRef .tc main_arg1) := by
  unfold mix; after_reads_simp

/-- The lower index of each query. -/
def idxA (s : S65536.Idx → F .f32) (t : S1000.Idx → F .f32) : S65536.Idx → BitVec 32 := lowA (argA (sumA (markA s t)))
/-- The reference's result. -/
def outA (s : S65536.Idx → F .f32) (t : S1000.Idx → F .f32) : S65536.Idx → F .f32 :=
  mixA (weightA (Host.log s) (takeA t (idxA s t)) (takeA t (nextA (idxA s t)))) (idxA s t) (nextA (idxA s t))

theorem out_eq : after (ops (F := F)) V (Proc.devRef .tc main_v38) = outA (V (Proc.devRef .tc main_arg0)) (V (Proc.devRef .tc main_arg1)) := by
  unfold ops
  rw [after_append, after_append, after_append, mix_v38, take_v0, take_v20, take_v27, take_v11, take_v13, find_v0, find_v11, find_v13, find_arg1, marks_v0, marks_v9, marks_arg1]
  rfl
theorem arg0_eq : after (ops (F := F)) V (Proc.devRef .tc main_arg0) = V (Proc.devRef .tc main_arg0) := by
  unfold ops
  rw [after_append, after_append, after_append, mix_arg0, take_arg0, find_arg0, marks_arg0]
theorem arg1_eq : after (ops (F := F)) V (Proc.devRef .tc main_arg1) = V (Proc.devRef .tc main_arg1) := by
  unfold ops
  rw [after_append, after_append, after_append, mix_arg1, take_arg1, find_arg1, marks_arg1]

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig := by
  unfold ops marks find take mix
  simp only [List.cons_append, List.nil_append, List.Forall]
  simp only [unary_bufs_sub, binary_bufs_sub, nullary_bufs_sub, ternary_bufs_sub, quaternary_bufs_sub, TRef.unary, TRef.binary, TRef.nullary, TRef.quaternary, and_self]

theorem ops_fresh : ∀ op ∈ ops (F := F), op.fresh = ∅ := by
  exact List.forall_iff_forall_mem.mp (forall_fresh_of_map rfl)

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => ops_fresh)

end Cert.Proof.Ref

end
-- ==== Proof.ArgMax.lean ====
/-
  The arg-max of a column of words, as the reference's reduction computes it: a fold of pairs (word, row) whose body keeps the pair with the greater word and, of equal
  words, the one with the smaller row. The fold's result is one of the pairs and is at least as good as each of them.
-/
module

public import proofs.«01_k».proof.Proof.Ref
public import Idealize.ShloMosaic.Lib.Routing.Ops
public import Idealize.ShloMosaic.Lib.Routing.OpsOne
public import Idealize.ShloMosaic.Lib.Routing.OpsSet
public import Idealize.ShloMosaic.Lib.Routing.Words
public import Idealize.ShloMosaic.PureOps.Reduce

@[expose] public section

noncomputable section

namespace Cert.Proof.Ref

open Cert.ReferenceIdeal Cert.ReferenceIdeal.Gen
open Idealize.ShloMosaic Idealize.ShloMosaic.StableHlo Idealize.ShloMosaic.ValueIdx

/-- The pair `a` is at least as good as the pair `b`: a greater word, or the same word at no later a row. -/
def Dom (a b : BitVec 32 × BitVec 32) : Prop := b.1.toInt < a.1.toInt ∨ (b.1 = a.1 ∧ a.2.toInt ≤ b.2.toInt)

theorem Dom.refl (a : BitVec 32 × BitVec 32) : Dom a a := .inr ⟨rfl, le_rfl⟩
theorem Dom.trans {a b c : BitVec 32 × BitVec 32} (h : Dom a b) (k : Dom b c) : Dom a c := by
  unfold Dom at *
  rcases h with h | ⟨h, h'⟩ <;> rcases k with k | ⟨k, k'⟩
  · exact .inl (k.trans h)
  · exact .inl (k ▸ h)
  · exact .inl (h ▸ k)
  · exact .inr ⟨k.trans h, h'.trans k'⟩

/-- The body gives one of its two pairs, the better one. -/
theorem body_dom (a b : BitVec 32 × BitVec 32) :
    (reducer_argmax_i32_i32 a b = a ∨ reducer_argmax_i32_i32 a b = b) ∧ Dom (reducer_argmax_i32_i32 a b) a ∧ Dom (reducer_argmax_i32_i32 a b) b := by
  obtain ⟨a1, a2⟩ := a
  obtain ⟨b1, b2⟩ := b
  have hne : IntOp.cmpi .ne a1 a1 = 0#1 := by simp [IntOp.cmpi]
  by_cases hgt : b1.toInt < a1.toInt
  · have e : IntOp.cmpi .sgt a1 b1 = 1#1 := by simp [IntOp.cmpi, BitVec.slt, hgt]
    have r : reducer_argmax_i32_i32 (a1, a2) (b1, b2) = (a1, a2) := by
      have e' : ∀ y : BitVec 1, IntOp.ori (IntOp.ori 1#1 0#1) y = 1#1 := by decide
      simp only [reducer_argmax_i32_i32, e, hne, e']
      rfl
    rw [r]
    exact ⟨.inl rfl, Dom.refl _, .inl hgt⟩
  · have e : IntOp.cmpi .sgt a1 b1 = 0#1 := by simp [IntOp.cmpi, BitVec.slt, hgt]
    by_cases heq : a1 = b1
    · subst heq
      have e2 : IntOp.cmpi .eq a1 a1 = 1#1 := by simp [IntOp.cmpi]
      by_cases hlt : a2.toInt < b2.toInt
      · have e3 : IntOp.cmpi .slt a2 b2 = 1#1 := by simp [IntOp.cmpi, BitVec.slt, hlt]
        have r : reducer_argmax_i32_i32 (a1, a2) (a1, b2) = (a1, a2) := by
          simp [reducer_argmax_i32_i32, e, e2, e3, hne, IntOp.ori, IntOp.andi, Scalar.select]
        rw [r]
        exact ⟨.inl rfl, Dom.refl _, .inr ⟨rfl, hlt.le⟩⟩
      · have e3 : IntOp.cmpi .slt a2 b2 = 0#1 := by simp [IntOp.cmpi, BitVec.slt, hlt]
        have r : reducer_argmax_i32_i32 (a1, a2) (a1, b2) = (a1, b2) := by
          simp [reducer_argmax_i32_i32, e, e2, e3, hne, IntOp.ori, IntOp.andi, Scalar.select]
        rw [r]
        exact ⟨.inr rfl, .inr ⟨rfl, not_lt.1 hlt⟩, Dom.refl _⟩
    · have e2 : IntOp.cmpi .eq a1 b1 = 0#1 := by
        show BitVec.ofBool (a1 == b1) = 0#1
        rw [beq_eq_false_iff_ne.2 heq]
        rfl
      have r : reducer_argmax_i32_i32 (a1, a2) (b1, b2) = (b1, b2) := by
        simp [reducer_argmax_i32_i32, e, e2, hne, IntOp.ori, IntOp.andi, Scalar.select]
      rw [r]
      refine ⟨.inr rfl, .inl ?_, Dom.refl _⟩
      refine lt_of_le_of_ne (not_lt.1 hgt) fun h => heq (BitVec.eq_of_toInt_eq h)

/-- The fold gives the start or one of the list's pairs, and one at least as good as all of these. -/
theorem fold_dom (l : List (BitVec 32 × BitVec 32)) : ∀ a : BitVec 32 × BitVec 32,
    l.foldl reducer_argmax_i32_i32 a ∈ a :: l ∧ ∀ x ∈ a :: l, Dom (l.foldl reducer_argmax_i32_i32 a) x := by
  induction l with
  | nil => exact fun a => ⟨List.mem_cons_self .., fun x hx => by rw [List.mem_singleton.1 hx]; exact Dom.refl _⟩
  | cons b l ih =>
    intro a
    obtain ⟨h1, h2, h3⟩ := body_dom a b
    obtain ⟨hm, hd⟩ := ih (reducer_argmax_i32_i32 a b)
    rw [List.foldl_cons]
    have ht := hd _ (List.mem_cons_self ..)
    refine ⟨?_, fun x hx => ?_⟩
    · rcases List.mem_cons.1 hm with h | h
      · rw [h]
        rcases h1 with h1 | h1 <;> rw [h1] <;> simp
      · exact List.mem_cons_of_mem _ (List.mem_cons_of_mem _ h)
    · rcases List.mem_cons.1 hx with rfl | hx
      · exact ht.trans h2
      · rcases List.mem_cons.1 hx with rfl | hx
        · exact ht.trans h3
        · exact hd x (List.mem_cons_of_mem _ hx)

/-- The pairs that the reduction of an `[n, m]` array along its rows folds for column `j`: the column's words with their rows. -/
theorem mem_fiber {n m : ℕ} (x : (⟨2, ![n, m]⟩ : Shape).Idx → BitVec 32) (h : (⟨2, ![n, m]⟩ : Shape).ReducesTo [0] ⟨1, ![m]⟩) (j : Fin m) (p : BitVec 32 × BitVec 32) :
    p ∈ Host.argReduceFiber x (iotaInDim (⟨2, ![n, m]⟩ : Shape) 32 0) h (ix1 j) ↔ ∃ i : Fin n, p = (x (ix2 i j), BitVec.ofNat 32 i.val) := by
  have hdrop : ∀ i : (⟨2, ![n, m]⟩ : Shape).Idx, h.drop i = ix1 j ↔ i 1 = j := by
    intro i
    have hv : (h.drop i 0 : ℕ) = i 1 := Shape.ReducesTo.drop_apply_val h i 0
    constructor
    · intro e
      rw [e] at hv
      exact Fin.ext hv.symm
    · intro e
      rw [eq_ix1 (h.drop i)]
      exact congrArg ix1 (Fin.ext (hv.trans (congrArg Fin.val e)))
  unfold Host.argReduceFiber
  simp only [List.mem_map, List.mem_filter, List.mem_finRange, true_and, decide_eq_true_eq]
  constructor
  · rintro ⟨k, hk, rfl⟩
    have h1 := (hdrop _).1 hk
    refine ⟨(⟨2, ![n, m]⟩ : Shape).rowMajor.symm k 0, ?_⟩
    subst h1
    exact congrArg (fun i => (x i, BitVec.ofNat 32 ((⟨2, ![n, m]⟩ : Shape).rowMajor.symm k 0).val)) (eq_ix2 _)
  · rintro ⟨i, rfl⟩
    refine ⟨(⟨2, ![n, m]⟩ : Shape).rowMajor (ix2 i j), ?_, ?_⟩
    · rw [Equiv.symm_apply_apply]
      exact (hdrop _).2 rfl
    · rw [Equiv.symm_apply_apply]
      rfl

/-- The reduction's index at column `j`, where the column holds the naturals `c`: the first row at which `c` is greatest. -/
theorem argmax_spec {n m : ℕ} (hn : 0 < n) (hn' : n ≤ 2 ^ 31) (x : (⟨2, ![n, m]⟩ : Shape).Idx → BitVec 32) (h : (⟨2, ![n, m]⟩ : Shape).ReducesTo [0] ⟨1, ![m]⟩) {u : Shape}
    (hu : 0 < u.numel) (j : Fin m) (c : ℕ → ℕ) (hc : ∀ i, i < n → c i < 2 ^ 31) (hx : ∀ i : Fin n, x (ix2 i j) = BitVec.ofNat 32 (c i.val)) :
    ∃ A, A < n ∧ (Host.reduce2 reducer_argmax_i32_i32 x (iotaInDim (⟨2, ![n, m]⟩ : Shape) 32 0) (constantI u 32 2147483648#32) (constantI u 32 0#32) h hu (ix1 j)).2 = BitVec.ofNat 32 A
      ∧ (∀ k, k < n → c k ≤ c A) ∧ ∀ k, k < n → c k = c A → A ≤ k := by
  rw [Host.reduce2_eq_foldl_fiber]
  obtain ⟨hm, hd⟩ := fold_dom (Host.argReduceFiber x (iotaInDim (⟨2, ![n, m]⟩ : Shape) 32 0) h (ix1 j)) (constantI u 32 2147483648#32 (Shape.Idx.first hu), constantI u 32 0#32 (Shape.Idx.first hu))
  generalize hr : List.foldl reducer_argmax_i32_i32 _ _ = r at hm hd ⊢
  have hall : ∀ k, k < n → Dom r (BitVec.ofNat 32 (c k), BitVec.ofNat 32 k) := fun k hk =>
    hd _ (List.mem_cons_of_mem _ ((mem_fiber x h j _).2 ⟨⟨k, hk⟩, by rw [hx]⟩))
  rcases List.mem_cons.1 hm with e | e
  · exfalso
    have h0 := hall 0 hn
    have hlow : (2147483648#32 : BitVec 32).toInt = -2147483648 := by decide
    have hc0 := hc 0 hn
    rw [e] at h0
    unfold Dom at h0
    simp only [constantI, hlow] at h0
    rw [Predicate.toInt_ofNat_small _ hc0] at h0
    rcases h0 with h0 | ⟨h0, -⟩
    · omega
    · have := congrArg BitVec.toInt h0
      rw [Predicate.toInt_ofNat_small _ hc0, hlow] at this
      omega
  · obtain ⟨A, rfl⟩ := (mem_fiber x h j _).1 e
    rw [hx] at hall
    refine ⟨A.val, A.isLt, rfl, fun k hk => ?_, fun k hk hck => ?_⟩
    · have := hall k hk
      unfold Dom at this
      simp only at this
      rw [Predicate.toInt_ofNat_small _ (hc k hk), Predicate.toInt_ofNat_small _ (hc A.val A.isLt)] at this
      rcases this with h1 | ⟨h1, -⟩
      · omega
      · have := congrArg BitVec.toInt h1
        rw [Predicate.toInt_ofNat_small _ (hc k hk), Predicate.toInt_ofNat_small _ (hc A.val A.isLt)] at this
        omega
    · have := hall k hk
      unfold Dom at this
      simp only at this
      have hA := A.isLt
      rw [hck, Predicate.toInt_ofNat_small k (by omega), Predicate.toInt_ofNat_small A.val (by omega)] at this
      rcases this with h1 | ⟨-, h1⟩
      · exact absurd h1 (lt_irrefl _)
      · exact_mod_cast h1

end Cert.Proof.Ref

end
-- ==== Proof.Value.lean ====
/-
  What the reference computes over the extended reals, entry by entry: where a query's logarithm is `l`, the lower index `L` is at most 998, the table's entry `L` is
  at most `l` unless `L` is 0, the entry `L + 1` is above `l` unless `L` is 998, and the result is `(1 - w) * L + w * (L + 1)` for the clipped weight `w`.
-/
module

public import proofs.«01_k».proof.Proof.ArgMax
public import Idealize.ShloMosaic.PureOps.Ideal.Laws

@[expose] public section

noncomputable section

namespace Cert.Proof.Ref

open Cert.ReferenceIdeal Cert.ReferenceIdeal.Gen
open Idealize.ShloMosaic Idealize.ShloMosaic.StableHlo Idealize.ShloMosaic.ValueIdx

/-- Whether `l` is at least the table entry `x`, as a natural. -/
def mark (l x : EReal) : ℕ := if 0 ≤ l - x then 1 else 0

/-- A table's entry at a natural index below 1000; the last entry from there on. -/
def entry (t : S1000.Idx → EReal) (i : ℕ) : EReal := t (ix1 ⟨min i 999, by omega⟩)
theorem entry_fin (t : S1000.Idx → EReal) (i : Fin 1000) : t (ix1 i) = entry t i.val := by
  have := i.isLt
  unfold entry
  exact congrArg (fun k => t (ix1 k)) (Fin.ext (by show i.val = min i.val 999; omega))

variable (s : S65536.Idx → EReal) (t : S1000.Idx → EReal)

/-- The marks, entry by entry. -/
theorem markA_apply (i : Fin 1000) (j : Fin 65536) : markA (F := Ideal) s t (ix2 i j) = BitVec.ofNat 32 (mark (Ideal.log (s (ix1 j))) (entry t i.val)) := by
  refine (congrArg (fun b : BitVec 1 => b.setWidth 32) (congrArg₂ (Ideal.cmp .oge) (congrArg₂ (fun a b : EReal => a - b)
    (Routing.bcCols bcast_S65536_S1x65536_1 bcast_S1x65536_S1000x65536_0_1 (Host.log (F := Ideal) (φ := .f32) s) i j)
    ((Routing.bcRows bcast_S1000_S1000x1_0 bcast_S1000x1_S1000x65536_0_1 t i j).trans (entry_fin t i)))
    ((Routing.bc0 bcast_S_S1000x65536 (constant (F := Ideal) S_ .f32 0x00000000#32) (ix2 i j)).trans Ideal.ofBits_zero_f32))).trans ?_
  exact Routing.setWidth_ofBool _

/-- The running sums. -/
theorem sumA_apply (x : S1000x65536.Idx → BitVec 32) (f : ℕ → ℕ → ℕ) (hx : ∀ (i : Fin 1000) (j : Fin 65536), x (ix2 i j) = BitVec.ofNat 32 (f i.val j.val)) (i : Fin 1000) (j : Fin 65536) :
    sumA x (ix2 i j) = BitVec.ofNat 32 ((List.range (i.val + 1)).map fun k => f k j.val).sum :=
  Routing.cumsum_rows (Rm1 := 999) rfl x f hx _ (Routing.bc0 _ _ _) _ _ i j

/-- The index array, written out. -/
theorem argA_eq (x : S1000x65536.Idx → BitVec 32) : argA x = fun j => (Host.reduce2 reducer_argmax_i32_i32 x (iotaInDim S1000x65536 32 0) (constantI S_ 32 2147483648#32) (constantI S_ 32 0#32) reducesTo_S1000x65536_S65536_d0 h_S_ j).2 := rfl
/-- The first row at which a column of naturals is greatest. -/
theorem argA_spec (x : S1000x65536.Idx → BitVec 32) (j : Fin 65536) (c : ℕ → ℕ) (hc : ∀ i, i < 1000 → c i < 2 ^ 31) (hx : ∀ i : Fin 1000, x (ix2 i j) = BitVec.ofNat 32 (c i.val)) :
    ∃ A, A < 1000 ∧ argA x (ix1 j) = BitVec.ofNat 32 A ∧ (∀ k, k < 1000 → c k ≤ c A) ∧ ∀ k, k < 1000 → c k = c A → A ≤ k := by
  obtain ⟨A, hA, hw, h⟩ := argmax_spec (by decide) (by decide) x reducesTo_S1000x65536_S65536_d0 h_S_ j c hc hx
  exact ⟨A, hA, (congrFun (argA_eq x) (ix1 j)).trans hw, h⟩

/-- An index below 1000, clipped. -/
theorem lowA_apply (x : S65536.Idx → BitVec 32) (j : Fin 65536) (A : ℕ) (hA : A < 1000) (hx : x (ix1 j) = BitVec.ofNat 32 A) :
    lowA x (ix1 j) = BitVec.ofNat 32 (min A 998) := by
  have h0 : broadcastInDim S65536 ![] bcast_S_S65536 (constantI S_ 32 0#32) (ix1 j) = 0#32 := Routing.bc0 _ _ _
  have h9 : broadcastInDim S65536 ![] bcast_S_S65536 (constantI S_ 32 998#32) (ix1 j) = BitVec.ofNat 32 998 := Routing.bc0 _ _ _
  have e : lowA x (ix1 j) = IntOp.minsi (broadcastInDim S65536 ![] bcast_S_S65536 (constantI S_ 32 998#32) (ix1 j))
      (IntOp.maxsi (broadcastInDim S65536 ![] bcast_S_S65536 (constantI S_ 32 0#32) (ix1 j)) (x (ix1 j))) := by unfold lowA; rfl
  rw [e, h0, h9, hx, Routing.maxsi_zero_left (by omega)]
  unfold IntOp.minsi
  simp only [BitVec.slt, Predicate.toInt_ofNat_small 998 (by decide), Predicate.toInt_ofNat_small A (by omega), decide_eq_true_eq]
  split
  · rw [show min A 998 = 998 by omega]
  · rw [show min A 998 = A by omega]

/-- The index after. -/
theorem nextA_apply (x : S65536.Idx → BitVec 32) (j : Fin 65536) (L : ℕ) (hx : x (ix1 j) = BitVec.ofNat 32 L) : nextA x (ix1 j) = BitVec.ofNat 32 (L + 1) := by
  have h1 : broadcastInDim S65536 ![] bcast_S_S65536 (constantI S_ 32 1#32) (ix1 j) = BitVec.ofNat 32 1 := Routing.bc0 _ _ _
  have e : nextA x (ix1 j) = x (ix1 j) + broadcastInDim S65536 ![] bcast_S_S65536 (constantI S_ 32 1#32) (ix1 j) := by unfold nextA; rfl
  rw [e, h1, hx]
  exact (BitVec.ofNat_add _ _).symm

/-- How many of the first `i + 1` table entries a query's logarithm reaches. -/
def reach (l : EReal) (i : ℕ) : ℕ := ((List.range (i + 1)).map fun k => mark l (entry t k)).sum
theorem reach_succ (l : EReal) (i : ℕ) : reach t l (i + 1) = reach t l i + mark l (entry t (i + 1)) := by
  unfold reach
  rw [List.range_succ, List.map_append, List.sum_append]
  simp
theorem reach_le (l : EReal) (i : ℕ) : reach t l i ≤ i + 1 := by
  have hm : ∀ x, mark l x ≤ 1 := fun x => by unfold mark; split <;> omega
  induction i with
  | zero => exact (by simpa [reach] using hm (entry t 0))
  | succ i ih => rw [reach_succ]; have := hm (entry t (i + 1)); omega

/-- The running sums of a query's marks are those counts. -/
theorem reach_apply (j : Fin 65536) (i : Fin 1000) : sumA (markA (F := Ideal) s t) (ix2 i j) = BitVec.ofNat 32 (reach t (Ideal.log (s (ix1 j))) i.val) := by
  have hc : ∀ c : Fin 65536, (⟨min c.val 65535, by omega⟩ : Fin 65536) = c := fun c => Fin.ext (by have := c.isLt; show min c.val 65535 = c.val; omega)
  refine (sumA_apply _ (fun k c => mark (Ideal.log (s (ix1 ⟨min c 65535, by omega⟩))) (entry t k)) (fun i c => ?_) i j).trans ?_
  · rw [markA_apply, hc]
  · unfold reach
    rw [hc]

/-- The lower index of a query, and what the arg-max says of the table entries beside it. -/
theorem idxA_spec (j : Fin 65536) : ∃ L : ℕ, L ≤ 998 ∧ idxA (F := Ideal) s t (ix1 j) = BitVec.ofNat 32 L
    ∧ (L = 0 ∨ 0 ≤ Ideal.log (s (ix1 j)) - entry t L ∨ (L = 998 ∧ 0 ≤ Ideal.log (s (ix1 j)) - entry t 999))
    ∧ (L = 998 ∨ ¬ 0 ≤ Ideal.log (s (ix1 j)) - entry t (L + 1)) := by
  obtain ⟨A, hA, hw, hmax, hfirst⟩ := argA_spec (sumA (markA (F := Ideal) s t)) j
    (fun i => reach t (Ideal.log (s (ix1 j))) i) (fun i hi => by have := reach_le t (Ideal.log (s (ix1 j))) i; omega) (reach_apply s t j)
  have hi : idxA (F := Ideal) s t (ix1 j) = BitVec.ofNat 32 (min A 998) := by
    unfold idxA
    exact lowA_apply _ j A hA hw
  refine ⟨min A 998, by omega, hi, ?_, ?_⟩
  all_goals
    clear hi hw
    generalize Ideal.log (s (ix1 j)) = l at *
    try dsimp only at hmax hfirst
  · by_cases h0 : A = 0
    · exact .inl (by omega)
    · obtain ⟨B, rfl⟩ := Nat.exists_eq_succ_of_ne_zero h0
      have h1 := hmax B (by omega)
      have h2 : ¬ reach t l B = reach t l (B + 1) := fun h => by have := hfirst B (by omega) h; omega
      have h3 := reach_succ t l B
      have h4 : mark l (entry t (B + 1)) ≠ 0 := fun h => h2 (by omega)
      have h5 : 0 ≤ l - entry t (B + 1) := by
        by_contra h
        exact h4 (if_neg h)
      by_cases hB : B + 1 ≤ 998
      · right; left
        rwa [show min (B + 1) 998 = B + 1 by omega]
      · right; right
        obtain rfl : B = 998 := by omega
        exact ⟨rfl, h5⟩
  · by_cases hB : A ≤ 997
    · right
      have h1 := hmax (A + 1) (by omega)
      have h3 := reach_succ t l A
      rw [show min A 998 = A by omega]
      intro h
      have : mark l (entry t (A + 1)) = 1 := if_pos h
      omega
    · exact .inl (by omega)

/-- The table's entry at an index that names one. -/
theorem takeA_apply (x : S65536.Idx → BitVec 32) (j : Fin 65536) (L : ℕ) (hL : L < 1000) (hx : x (ix1 j) = BitVec.ofNat 32 L) :
    takeA (F := Ideal) t x (ix1 j) = entry t L := by
  unfold takeA
  refine (Routing.gather_take1 gather_S1000_S65536x1_S65536_n_0_n_n_0_1_1 rfl rfl rfl rfl t _ j ⟨L, hL⟩ ?_ (by decide)).trans (entry_fin t ⟨L, hL⟩)
  refine (Routing.bcCol bcast_S65536_S65536x1_0 _ j).trans ?_
  rw [select_apply]
  have hlt : cmpi .slt x (broadcastInDim S65536 ![] bcast_S_S65536 (constantI S_ 32 0#32)) (ix1 j) = 0#1 := by
    show BitVec.ofBool ((x (ix1 j)).slt 0#32) = 0#1
    rw [hx]
    have : ¬ BitVec.ofBool ((BitVec.ofNat 32 L).slt (BitVec.ofNat 32 0)) = 1#1 := by
      rw [Predicate.slt_ofNat_iff _ _ (by omega) (by omega)]; omega
    exact eq_zero_of_ne_one this
  rw [hlt, select_zero, hx]

/-- The interpolated index, from the two table entries and the lower index. -/
def interp (l a b : EReal) (L : ℕ) : EReal :=
  (1 - min 1 (max 0 (Ideal.div (a - l) (a - b)))) * ((L : ℝ) : EReal) + min 1 (max 0 (Ideal.div (a - l) (a - b))) * (((L + 1 : ℕ) : ℝ) : EReal)

theorem ofBits_one : Ideal.ofBits .f32 0x3F800000#32 = 1 := by
  simp [Ideal.ofBits, Ideal.ieee]
  rw [← EReal.coe_mul]
  norm_num

theorem one_apply (j : Fin 65536) : broadcastInDim S65536 ![] bcast_S_S65536 (constant (F := Ideal) S_ .f32 0x3F800000#32) (ix1 j) = (1 : EReal) :=
  (Routing.bc0 _ _ _).trans ofBits_one
theorem zero_apply (j : Fin 65536) : broadcastInDim S65536 ![] bcast_S_S65536 (constant (F := Ideal) S_ .f32 0x00000000#32) (ix1 j) = (0 : EReal) :=
  (Routing.bc0 _ _ _).trans Ideal.ofBits_zero_f32

/-- The weight, entry by entry. -/
theorem weightA_apply (lg lo hi : S65536.Idx → EReal) (j : Fin 65536) :
    weightA (F := Ideal) lg lo hi (ix1 j) = min 1 (max 0 (Ideal.div (lo (ix1 j) - lg (ix1 j)) (lo (ix1 j) - hi (ix1 j)))) := by
  unfold weightA
  exact congrArg₂ min (one_apply j) (congrArg₂ max (zero_apply j) rfl)

/-- The interpolation, entry by entry, of indices that hold naturals. -/
theorem mixA_apply (w : S65536.Idx → EReal) (x y : S65536.Idx → BitVec 32) (j : Fin 65536) (a b : ℕ) (ha : a < 2 ^ 31) (hb : b < 2 ^ 31) (hx : x (ix1 j) = BitVec.ofNat 32 a)
    (hy : y (ix1 j) = BitVec.ofNat 32 b) : mixA (F := Ideal) w x y (ix1 j) = (1 - w (ix1 j)) * ((a : ℝ) : EReal) + w (ix1 j) * ((b : ℝ) : EReal) := by
  have hc : ∀ (z : BitVec 32) (k : ℕ), k < 2 ^ 31 → z = BitVec.ofNat 32 k → ((z.toInt : ℝ) : EReal) = ((k : ℝ) : EReal) := fun z k hk hz => by
    rw [hz, Predicate.toInt_ofNat_small _ hk]
    norm_cast
  unfold mixA
  refine congrArg₂ (fun a b : EReal => a + b) (congrArg₂ (fun a b : EReal => a * b) (congrArg₂ (fun a b : EReal => a - b) (one_apply j) rfl) ?_) (congrArg₂ (fun a b : EReal => a * b) rfl ?_)
  · exact hc _ a ha hx
  · exact hc _ b hb hy

/-- The reference's result, entry by entry. -/
theorem outA_apply (j : Fin 65536) : ∃ L : ℕ, L ≤ 998
    ∧ (L = 0 ∨ 0 ≤ Ideal.log (s (ix1 j)) - entry t L ∨ (L = 998 ∧ 0 ≤ Ideal.log (s (ix1 j)) - entry t 999))
    ∧ (L = 998 ∨ ¬ 0 ≤ Ideal.log (s (ix1 j)) - entry t (L + 1))
    ∧ outA (F := Ideal) s t (ix1 j) = interp (Ideal.log (s (ix1 j))) (entry t L) (entry t (L + 1)) L := by
  obtain ⟨L, hL, hi, h1, h2⟩ := idxA_spec s t j
  refine ⟨L, hL, h1, h2, ?_⟩
  have hn : nextA (idxA (F := Ideal) s t) (ix1 j) = BitVec.ofNat 32 (L + 1) := nextA_apply _ j L hi
  unfold outA interp
  rw [mixA_apply _ _ _ j L (L + 1) (by omega) (by omega) hi hn, weightA_apply, takeA_apply t _ j L (by omega) hi, takeA_apply t _ j (L + 1) (by omega) hn]
  rfl

end Cert.Proof.Ref

end
-- ==== Proof.Spaced.lean ====
/-
  The equation over the extended reals. A table whose neighbours all differ by the same positive amount holds `a + i d` for reals `a` and `d > 0`. Of such a table the
  interpolated index at `l`, between the entries the arg-max finds, is `(l - a) / d` clipped to `[0, 999]`, at the infinities too.
-/
module

public import proofs.«01_k».proof.Proof.Value

@[expose] public section

noncomputable section

namespace Cert.Proof.Spaced

open Idealize.ShloMosaic

/-- Equal positive differences make every entry real, and the entries an arithmetic sequence. -/
theorem arith (e : ℕ → EReal) (δ : EReal) (h : ∀ i, i < 999 → e (i + 1) - e i = δ) (hδ : 0 < δ) :
    ∃ a d : ℝ, 0 < d ∧ ∀ i, i ≤ 999 → e i = ((a + i * d : ℝ) : EReal) := by
  have htop : ∀ i, i < 999 → e i ≠ ⊤ := fun i hi he => by
    have := h i hi
    rw [he, sub_eq_add_neg, EReal.neg_top, EReal.add_bot] at this
    rw [← this] at hδ
    exact absurd hδ (by simp)
  have hbot : ∀ i, i < 999 → e (i + 1) ≠ ⊥ := fun i hi he => by
    have := h i hi
    rw [he, sub_eq_add_neg, EReal.bot_add] at this
    rw [← this] at hδ
    exact absurd hδ (by simp)
  have hreal : ∀ i, 1 ≤ i → i ≤ 998 → ∃ r : ℝ, e i = r := fun i h1 h2 => by
    obtain ⟨k, rfl⟩ := Nat.exists_eq_add_of_le' h1
    exact ⟨(e (k + 1)).toReal, (EReal.coe_toReal (htop _ (by omega)) (hbot k (by omega))).symm⟩
  obtain ⟨r1, h1⟩ := hreal 1 (by omega) (by omega)
  obtain ⟨r2, h2⟩ := hreal 2 (by omega) (by omega)
  obtain ⟨d, rfl⟩ : ∃ d : ℝ, δ = d := ⟨r2 - r1, by rw [← h 1 (by omega), h1]; show e 2 - _ = _; rw [h2]; rfl⟩
  have hd : 0 < d := by exact_mod_cast hδ
  have h0 : e 0 = ((r1 - d : ℝ) : EReal) := by
    have hb : e 0 ≠ ⊥ := fun he => by
      have := h 0 (by omega)
      rw [he, show e (0 + 1) = r1 from h1, sub_eq_add_neg, EReal.neg_bot] at this
      simp at this
    have hr := (EReal.coe_toReal (htop 0 (by omega)) hb).symm
    have := h 0 (by omega)
    rw [hr, show e (0 + 1) = r1 from h1] at this
    have h' : r1 - (e 0).toReal = d := by exact_mod_cast this
    rw [hr, show r1 - d = (e 0).toReal by linarith]
  refine ⟨r1 - d, d, hd, fun i => ?_⟩
  induction i with
  | zero => intro _; rw [h0]; norm_num
  | succ i ih =>
    intro hi
    have hp := ih (by omega)
    have hs := h i (by omega)
    rw [hp] at hs
    have ht : e (i + 1) ≠ ⊤ := fun he => by
      rw [he, sub_eq_add_neg, ← EReal.coe_neg, EReal.top_add_coe] at hs
      simp at hs
    have hr := (EReal.coe_toReal ht (hbot i (by omega))).symm
    rw [hr] at hs ⊢
    have h' : (e (i + 1)).toReal - (r1 - d + i * d) = d := by exact_mod_cast hs
    rw [show (e (i + 1)).toReal = r1 - d + (i + 1 : ℕ) * d by push_cast; linarith]

/-- The same of real numbers: the clipped weight puts the index at `q`, clipped. -/
theorem clip_real (q : ℝ) (L : ℕ) (hL : L ≤ 998) (h1 : L = 0 ∨ (L : ℝ) ≤ q) (h2 : L = 998 ∨ q < L + 1) :
    (1 - min 1 (max 0 (q - L))) * L + min 1 (max 0 (q - L)) * ((L + 1 : ℕ) : ℝ) = min 999 (max 0 q) := by
  have e : ∀ w : ℝ, (1 - w) * L + w * ((L + 1 : ℕ) : ℝ) = L + w := fun w => by push_cast; ring
  rw [e]
  have hL' : (L : ℝ) ≤ 998 := by exact_mod_cast hL
  have hL0 : (0 : ℝ) ≤ L := Nat.cast_nonneg L
  by_cases hq : q < L
  · obtain rfl : L = 0 := h1.resolve_right (not_le.2 hq)
    have hq0 : q ≤ 0 := by simpa using hq.le
    simp [hq0]
  · have hq := not_lt.1 hq
    rw [max_eq_right (sub_nonneg.2 hq), max_eq_right (hL0.trans hq)]
    rcases h2 with rfl | h2
    · rcases le_total q 999 with h | h
      · rw [min_eq_right (by push_cast; linarith), min_eq_right h]; ring
      · rw [min_eq_left (by push_cast; linarith), min_eq_left h]; norm_num
    · rw [min_eq_right (by linarith), min_eq_right (by linarith)]; ring

theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm

theorem coe_sub_bot (x : ℝ) : (x : EReal) - ⊥ = ⊤ := by rw [sub_eq_add_neg, EReal.neg_bot, EReal.coe_add_top]
theorem bot_sub (x : EReal) : ⊥ - x = ⊥ := by rw [sub_eq_add_neg, EReal.bot_add]
theorem sub_top (x : EReal) : x - ⊤ = ⊥ := by rw [sub_eq_add_neg, EReal.neg_top, EReal.add_bot]
theorem top_sub_coe (x : ℝ) : ⊤ - (x : EReal) = ⊤ := by rw [sub_eq_add_neg, ← EReal.coe_neg, EReal.top_add_coe]

/-- The interpolated index at `l`. -/
theorem interp_eq (a d : ℝ) (hd : 0 < d) (l : EReal) (L : ℕ) (hL : L ≤ 998)
    (h1 : L = 0 ∨ 0 ≤ l - ((a + L * d : ℝ) : EReal) ∨ (L = 998 ∧ 0 ≤ l - ((a + (999 : ℕ) * d : ℝ) : EReal)))
    (h2 : L = 998 ∨ ¬ 0 ≤ l - ((a + (L + 1 : ℕ) * d : ℝ) : EReal)) :
    Ref.interp l ((a + L * d : ℝ) : EReal) ((a + (L + 1 : ℕ) * d : ℝ) : EReal) L
      = min ((999 : ℝ) : EReal) (max 0 (l * ((1 / d : ℝ) : EReal) - (a : EReal) * ((1 / d : ℝ) : EReal))) := by
  have hdd : ((a + L * d : ℝ) : EReal) - ((a + (L + 1 : ℕ) * d : ℝ) : EReal) = ((-d : ℝ) : EReal) := by
    rw [← EReal.coe_sub]
    congr 1
    push_cast
    ring
  unfold Ref.interp
  rw [hdd, Ideal.div_coe (by linarith)]
  have hneg : (1 / -d : ℝ) < 0 := div_neg_of_pos_of_neg one_pos (by linarith)
  have hpos : (0 : ℝ) < 1 / d := by positivity
  induction l using EReal.rec with
  | bot =>
    have hb : ∀ x : ℝ, ¬ (0 : EReal) ≤ ⊥ - (x : EReal) := fun x => by simp [sub_eq_add_neg]
    obtain rfl : L = 0 := by
      rcases h1 with h | h | h
      · exact h
      · exact absurd h (hb _)
      · exact absurd h.2 (hb _)
    rw [coe_sub_bot, EReal.top_mul_coe_of_neg hneg, EReal.bot_mul_coe_of_pos hpos, bot_sub]
    simp
  | top =>
    obtain rfl : L = 998 := h2.resolve_right (fun h => h (by rw [top_sub_coe]; exact le_top))
    rw [sub_top, EReal.bot_mul_coe_of_neg hneg, EReal.top_mul_coe_of_pos hpos, ← EReal.coe_mul, top_sub_coe]
    have : (1 : EReal) - 1 = 0 := by rw [← EReal.coe_one, ← EReal.coe_sub]; simp
    simp [this]
  | coe r =>
    have hle : ∀ x : ℝ, (0 : EReal) ≤ (r : EReal) - (x : EReal) ↔ x ≤ r := fun x => by
      rw [← EReal.coe_sub, ← EReal.coe_zero, EReal.coe_le_coe_iff, sub_nonneg]
    simp only [hle] at h1 h2
    have hq : ∀ x : ℝ, a + x * d ≤ r ↔ x ≤ (r - a) / d := fun x => by
      rw [le_div_iff₀ hd]; constructor <;> intro h <;> linarith
    simp only [hq] at h1 h2
    rw [← EReal.coe_sub, ← EReal.coe_mul, ← EReal.coe_mul, ← EReal.coe_mul, ← EReal.coe_sub, ← EReal.coe_zero, ← EReal.coe_one, coe_max, coe_max, coe_min, coe_min, ← EReal.coe_sub,
      ← EReal.coe_mul, ← EReal.coe_mul, ← EReal.coe_add]
    congr 1
    have e1 : (a + L * d - r) * (1 / -d) = (r - a) / d - L := by field_simp; ring
    have e2 : r * (1 / d) - a * (1 / d) = (r - a) / d := by ring
    rw [e1, e2]
    refine clip_real _ L hL ?_ ?_
    · rcases h1 with h | h | ⟨rfl, h⟩
      · exact .inl h
      · exact .inr h
      · exact .inr (le_trans (by norm_num) h)
    · rcases h2 with h | h
      · exact .inl h
      · right
        have := not_le.1 h
        push_cast at this
        exact this

end Cert.Proof.Spaced

end
-- ==== Proof.Launch.lean ====
/-
  The launch of the one vector-subcore kernel, set up: what the launch theorem sees of the program, the arrays the call works on, the thirty-two blocks of 2048
  entries the input and the result are cut into (tile `(c, i)` takes block `2 i + c`), the value a result entry is to hold (`tval`, `G`), and what the handshakes
  carry: to each tile its block of the input and of the result and a read share of the staged table, back its block of the input and its block of the result at `G`.
  Everything is stated over any float values and over the contents the call finds.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are different and unscoped, and no SparseCore buffer is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The input array, the staged table and the result, as locations of device `d`. -/
abbrev sLoc (d : Dev nD) : Loc nD τ sig := (SparseCore.T d).loc main_arg0
abbrev aLoc (d : Dev nD) : Loc nD τ sig := (SparseCore.T d).loc main_v10
abbrev oLoc (d : Dev nD) : Loc nD τ sig := (SparseCore.T d).loc main_v11

/-- The kernel's memrefs as the body table passes them: the input, the staged table and the result. -/
abbrev sV : Memref sig .scVector .hbm S65536 .f32 := Memref.whole main_arg0_scv
abbrev aV : Memref sig .scVector .hbm S1040 .f32 := Memref.whole main_v10_scv
abbrev oV : Memref sig .scVector .hbm S65536 .f32 := Memref.whole main_v11_scv

theorem hdiv : 32 ∣ S65536.size 0 := ⟨2048, rfl⟩
/-- Block `w` of the two long arrays: entries `2048 w` to `2048 w + 2047`. -/
abbrev row (w : Fin 32) : Rect S65536 := Rect.part (s := S65536) (a₀ := 0) hdiv w
abbrev rowSet (w : Fin 32) : Finset S65536.Idx := ((sV).view.slice (row w)).set

/-- The block of tile `i` of SparseCore `c`. -/
def blk (c : Fin 2) (i : Fin 16) : Fin 32 := ⟨2 * i.val + c.val, by omega⟩
/-- The blocks, counted by SparseCore and tile. -/
def blkEquiv : Fin 2 × Fin 16 ≃ Fin 32 where
  toFun p := blk p.1 p.2
  invFun w := (⟨w.val % 2, by omega⟩, ⟨w.val / 2, by omega⟩)
  left_inv := by rintro ⟨c, i⟩; ext <;> simp only [blk] <;> omega
  right_inv := by intro w; ext; simp only [blk]; omega

/-- The read share of the staged table that tile `i` of SparseCore `c` gets: a sixteenth of a half. -/
def qq (c : Fin 2) (i : Fin 16) : PosShare TreeShare := leaf 4 (leaf 1 fullShare c) i

variable [FloatOps F]

/-! ## The value -/

/-- What the kernel stores for an input entry `s`, the two broadcast lanes being `c0` and `inv`. -/
def tval (c0 inv s : F .f32) : F .f32 := k0_pay1 (fun _ => c0) (fun _ => inv) (fun _ => s) (Shape.Idx.first h_S16)

/-- The three lanes' vectors enter the stored vector lane by lane. -/
theorem pay_apply (v7 v8 v13 : Vec F S16 .f32) (x : S16.Idx) : k0_pay1 v7 v8 v13 x = tval (v7 x) (v8 x) (v13 x) := rfl

/-- The entry `1008 + n % 16` of the staged table, and the entry `1024 + n % 16`. -/
def lane0 (n : ℕ) : S1040.Idx := fun | 0 => ⟨1008 + n % 16, by show _ < 1040; omega⟩
def lane1 (n : ℕ) : S1040.Idx := fun | 0 => ⟨1024 + n % 16, by show _ < 1040; omega⟩

/-- The result array, from the input and the staged table. -/
def G (s : S65536.Idx → F .f32) (a : S1040.Idx → F .f32) : S65536.Idx → F .f32 :=
  fun n => tval (a (lane0 (n 0).val)) (a (lane1 (n 0).val)) (s n)

/-! ## What the handshakes carry -/

variable (s : S65536.Idx → F .f32) (a : S1040.Idx → F .f32) (o : S65536.Idx → F .f32)

abbrev sRowPts (d : Dev nD) (w : Fin 32) : sProp 𝕄 := sLoc d ↦[rowSet w]{fullShare} (s : Buf (Elt F) (sLoc d))
abbrev oRowPts (d : Dev nD) (w : Fin 32) (f : S65536.Idx → F .f32) : sProp 𝕄 := oLoc d ↦[rowSet w]{fullShare} (f : Buf (Elt F) (oLoc d))
abbrev aPts (d : Dev nD) (c : Fin 2) (i : Fin 16) : sProp 𝕄 := aLoc d ↦{qq c i} (a : Buf (Elt F) (aLoc d))

/-- What a tile gets and what it brings back. -/
def tileIn (d : Dev nD) (c : Fin 2) (i : Fin 16) : sProp 𝕄 :=
  iprop(sRowPts s d (blk c i) ∗ aPts a d c i ∗ oRowPts d (blk c i) o)
def tileOut (d : Dev nD) (c : Fin 2) (i : Fin 16) : sProp 𝕄 :=
  iprop(sRowPts s d (blk c i) ∗ oRowPts d (blk c i) (G s a))

/-- The one call takes each SparseCore its sixteen tiles' shares, and brings them back. -/
def P : (K (F := F)).Pay (nD := nD) (Val := Elt F) (Name := ℕ) (U := UU) where
  st := fun q d c => match q with | 0 => bigSep Finset.univ fun i : Fin 16 => tileIn s a o d (Fin.cast nCore_zero c) i
  dn := fun q d c => match q with | 0 => bigSep Finset.univ fun i : Fin 16 => tileOut s a d (Fin.cast nCore_zero c) i
  go := fun q d c i => match q with | 0 => tileIn s a o d (Fin.cast nCore_zero c) (Fin.cast nSub_zero i)
  td := fun q d c i => match q with | 0 => tileOut s a d (Fin.cast nCore_zero c) (Fin.cast nSub_zero i)
  x := fun _ _ => iprop(emp)

instance tileIn_storable (d : Dev nD) (c : Fin 2) (i : Fin 16) : BI.Storable (upEmb : UEmb _ 𝕄) (tileIn s a o d c i) := by
  unfold tileIn; infer_instance
instance tileOut_storable (d : Dev nD) (c : Fin 2) (i : Fin 16) : BI.Storable (upEmb : UEmb _ 𝕄) (tileOut s a d c i) := by
  unfold tileOut; infer_instance

instance P_storable : (P (F := F) s a o).IsStorable where
  st q d c := match q with
    | 0 => (inferInstance : BI.Storable (upEmb : UEmb _ 𝕄) (bigSep Finset.univ fun i : Fin 16 => tileIn s a o d (Fin.cast nCore_zero c) i))
  dn q d c := match q with
    | 0 => (inferInstance : BI.Storable (upEmb : UEmb _ 𝕄) (bigSep Finset.univ fun i : Fin 16 => tileOut s a d (Fin.cast nCore_zero c) i))
  go q d c i := match q with
    | 0 => tileIn_storable s a o d (Fin.cast nCore_zero c) (Fin.cast nSub_zero i)
  td q d c i := match q with
    | 0 => tileOut_storable s a d (Fin.cast nCore_zero c) (Fin.cast nSub_zero i)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands are its tiles', and its tiles' results are its own. -/
theorem vecSplit : (K (F := F)).VecSplit' (P s a o) 0 := by
  intro d c
  show (bigSep Finset.univ fun i : Fin 16 => tileIn s a o d (Fin.cast nCore_zero c) i) ⊢ |={Set.univ}=> iprop(
      (bigSep Finset.univ fun i : Fin ((K (F := F)).nSub 0) => tileIn s a o d (Fin.cast nCore_zero c) (Fin.cast nSub_zero i))
      ∗ ((bigSep Finset.univ fun i : Fin ((K (F := F)).nSub 0) => tileOut s a d (Fin.cast nCore_zero c) (Fin.cast nSub_zero i))
          -∗ bigSep Finset.univ fun i : Fin 16 => tileOut s a d (Fin.cast nCore_zero c) i))
  rw [bigSep_tasks (F := F) (fun i => tileIn s a o d (Fin.cast nCore_zero c) i), bigSep_tasks (F := F) (fun i => tileOut s a d (Fin.cast nCore_zero c) i)]
  iintro H; imodintro
  isplitl [H]; · iexact H
  iintro H; iexact H

/-! ## The arrays cut into the tiles' shares, and put together again -/

omit [FloatOps F] in
theorem rowSet_eq (w : Fin 32) : rowSet w = (row w).set := by
  show ((View.whole (main_arg0_scv : Ref sig .scVector)).slice (row w)).set = _
  rw [View.set_slice]; exact Finset.map_refl
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
omit [FloatOps F] in
theorem rows_cover : (Finset.univ : Finset (Fin 32)).biUnion rowSet = Finset.univ :=
  (Finset.biUnion_congr rfl fun i _ => rowSet_eq i).trans (Rect.biUnion_part hdiv)

omit [FloatOps F] in
/-- A separating conjunction over the blocks, by SparseCore and tile. -/
theorem bigSep_blk (Φ : Fin 32 → sProp 𝕄) :
    bigSep Finset.univ Φ = bigSep Finset.univ fun c : Fin 2 => bigSep Finset.univ fun i : Fin 16 => Φ (blk c i) := by
  rw [bigSep_univ_equiv blkEquiv Φ, bigSep_univ_prod]; rfl

omit [FloatOps F] in
theorem sPts_rows (d : Dev nD) (f : S65536.Idx → F .f32) :
    (sLoc d ↦{fullShare} (f : Buf (Elt F) (sLoc d)) : sProp 𝕄) = bigSep Finset.univ fun c : Fin 2 => bigSep Finset.univ fun i : Fin 16 => sRowPts f d (blk c i) := by
  rw [← bigSep_blk (fun w => sRowPts f d w), ← pointsTo_biUnion Finset.univ (ℓ := sLoc d) rowSet rows_disjoint, rows_cover]; try rfl
omit [FloatOps F] in
theorem oPts_rows (d : Dev nD) (f : S65536.Idx → F .f32) :
    (oLoc d ↦{fullShare} (f : Buf (Elt F) (oLoc d)) : sProp 𝕄) = bigSep Finset.univ fun c : Fin 2 => bigSep Finset.univ fun i : Fin 16 => oRowPts d (blk c i) f := by
  rw [← bigSep_blk (fun w => oRowPts d w f), ← pointsTo_biUnion Finset.univ (ℓ := oLoc d) rowSet rows_disjoint, rows_cover]; try rfl
omit [FloatOps F] in
theorem aPts_half (d : Dev nD) (f : Buf (Elt F) (aLoc d)) :
    (aLoc d ↦{fullShare} f : sProp 𝕄) = bigSep Finset.univ fun c : Fin 2 => aLoc d ↦{leaf 1 fullShare c} f :=
  pointsTo_leaves Finset.univ f 1 fullShare
omit [FloatOps F] in
theorem aPts_sixteenth (d : Dev nD) (f : Buf (Elt F) (aLoc d)) (c : Fin 2) :
    (aLoc d ↦{leaf 1 fullShare c} f : sProp 𝕄) = bigSep Finset.univ fun i : Fin 16 => aLoc d ↦{qq c i} f :=
  pointsTo_leaves Finset.univ f 4 (leaf 1 fullShare c)
omit [FloatOps F] in
theorem aPts_shares (d : Dev nD) :
    (aLoc d ↦{fullShare} (a : Buf (Elt F) (aLoc d)) : sProp 𝕄) = bigSep Finset.univ fun c : Fin 2 => bigSep Finset.univ fun i : Fin 16 => aPts a d c i :=
  (aPts_half d a).trans (bigSep_congr fun c _ => aPts_sixteenth d a c)

/-- The three arrays whole are the two SparseCores' operands. -/
theorem st0_eq (d : Dev nD) :
    (bigSep Finset.univ fun c : Fin ((K (F := F)).nCore 0) => (P s a o).st 0 d c)
      = iprop((sLoc d ↦{fullShare} (s : Buf (Elt F) (sLoc d))) ∗ (aLoc d ↦{fullShare} (a : Buf (Elt F) (aLoc d))) ∗ oLoc d ↦{fullShare} (o : Buf (Elt F) (oLoc d))) := by
  rw [sPts_rows, oPts_rows, aPts_shares]
  show (bigSep Finset.univ fun c : Fin 2 => bigSep Finset.univ fun i : Fin 16 => tileIn s a o d c i) = _
  unfold tileIn
  simp only [bigSep_sep']
/-- The two SparseCores' results are the input whole and the result whole, at `G`. -/
theorem dn0_eq (d : Dev nD) :
    (bigSep Finset.univ fun c : Fin ((K (F := F)).nCore 0) => (P s a o).dn 0 d c)
      = iprop((sLoc d ↦{fullShare} (s : Buf (Elt F) (sLoc d))) ∗ oLoc d ↦{fullShare} (G s a : Buf (Elt F) (oLoc d))) := by
  rw [sPts_rows, oPts_rows]
  show (bigSep Finset.univ fun c : Fin 2 => bigSep Finset.univ fun i : Fin 16 => tileOut s a d c i) = _
  unfold tileOut
  simp only [bigSep_sep']

end Cert.Proof.Run

end
-- ==== Proof.Tile.lean ====
/-
  One tile's task: it copies the staged table and its block of the input into its own memory, waits for both, reads the two lane vectors, walks its block sixteen
  entries at a time, and copies the finished block out. The loop's invariant says that the first `16 k` entries of the tile's output buffer hold their values.
-/
module

public import proofs.«01_k».proof.Proof.Launch
public import Idealize.ShloMosaic.Lib.WritesUnit

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A tile's own three buffers: its block of the input, its block of the result, its copy of the staged table. -/
abbrev bS : Memref sig .scVector .vmem S2048 .f32 := Memref.whole cc0_scratch0
abbrev bO : Memref sig .scVector .vmem S2048 .f32 := Memref.whole cc0_scratch1
abbrev bA : Memref sig .scVector .vmem S1040 .f32 := Memref.whole cc0_scratch2

variable [FloatOps F]
variable (s : S65536.Idx → F .f32) (a : S1040.Idx → F .f32) (o : S65536.Idx → F .f32)
variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
abbrev wL (L : grid0.Coords) : Fin 32 := blk (cL L) (jL L)
/-- The tile's thread. -/
abbrev VT (d : Dev nD) (L : grid0.Coords) : Thread nD τ := V d (cV L) (jV L)

/-- The tile's block of the long arrays, as the body spells it. -/
abbrev rowK (L : grid0.Coords) : Rect S65536 := Rect.unit (s := S65536) (k0_off1 L) S2048.size (k0_off1_inb L)
abbrev sRowK (L : grid0.Coords) : Memref sig .scVector .hbm S2048 .f32 := sV.slice (rowK L) (fun _ => rfl)
abbrev oRowK (L : grid0.Coords) : Memref sig .scVector .hbm S2048 .f32 := oV.slice (rowK L) (fun _ => rfl)

omit [FloatOps F] in
theorem rowK_eq : rowK L = row (wL L) := by
  unfold rowK row Rect.part Rect.block
  congr 1 <;> funext x
  · rw [k0_off1_eq]
    match x with
    | 0 =>
      simp only [Shape.partIx, Shape.partSize, blk, Matrix.cons_val_zero]
      simp
      omega
  · match x with
    | 0 => simp [Shape.partSize]

omit [FloatOps F] in
theorem set_sRowK : (sRowK L).view.set = rowSet (wL L) := by
  show ((sV).view.slice (rowK L)).set = ((sV).view.slice (row (wL L))).set
  exact rowK_eq L ▸ rfl
omit [FloatOps F] in
theorem set_oRowK : (oRowK L).view.set = rowSet (wL L) := by
  show ((oV).view.slice (rowK L)).set = ((sV).view.slice (row (wL L))).set
  exact rowK_eq L ▸ rfl

omit [FloatOps F] in
theorem pts_sRowK (f : Buf (Elt F) (sLoc d)) :
    ((sRowK L).view.loc (VT d L) ↦[(sRowK L).view.set]{fullShare} f : sProp 𝕄) = sLoc d ↦[rowSet (wL L)]{fullShare} f := by
  rw [set_sRowK]
omit [FloatOps F] in
theorem pts_oRowK (f : Buf (Elt F) (oLoc d)) :
    ((oRowK L).view.loc (VT d L) ↦[(oRowK L).view.set]{fullShare} f : sProp 𝕄) = oLoc d ↦[rowSet (wL L)]{fullShare} f := by
  rw [set_oRowK]
omit [FloatOps F] in
theorem pts_aV (q : PosShare TreeShare) (f : Buf (Elt F) (aLoc d)) :
    ((aV).view.loc (VT d L) ↦{q} f : sProp 𝕄) = aLoc d ↦{q} f := rfl
omit [FloatOps F] in
theorem pts_bS (f : Buf (Elt F) ((VT d L).loc cc0_scratch0)) :
    ((bS).view.loc (VT d L) ↦{fullShare} f : sProp 𝕄) = (VT d L).loc cc0_scratch0 ↦{fullShare} f := rfl
omit [FloatOps F] in
theorem pts_bO (f : Buf (Elt F) ((VT d L).loc cc0_scratch1)) :
    ((bO).view.loc (VT d L) ↦{fullShare} f : sProp 𝕄) = (VT d L).loc cc0_scratch1 ↦{fullShare} f := rfl
omit [FloatOps F] in
theorem pts_bA (f : Buf (Elt F) ((VT d L).loc cc0_scratch2)) :
    ((bA).view.loc (VT d L) ↦{fullShare} f : sProp 𝕄) = (VT d L).loc cc0_scratch2 ↦{fullShare} f := rfl

/-- The three cells the body waits on: the table's copy, the input block's, the result block's. -/
abbrev cellA (d : Dev nD) (L : grid0.Coords) : GSem nD τ sig := (VT d L, .dma cc0_scratch3.sem)
abbrev cellS (d : Dev nD) (L : grid0.Coords) : GSem nD τ sig := (VT d L, .dma cc0_scratch4.sem)
abbrev cellO (d : Dev nD) (L : grid0.Coords) : GSem nD τ sig := (VT d L, .dma cc0_scoped0.sem)

omit [FloatOps F] in
theorem ownSems0_V :
    (ownSems0 (VT d L) : sProp 𝕄)
      = iprop(semVal (cellA d L) 0 ∗ semVal (cellS d L) 0 ∗ semVal (cellO d L) 0
          ∗ bigSep ((((ownCells (VT d L)).erase (cellA d L)).erase (cellS d L)).erase (cellO d L)) fun g => semVal g 0) := by
  unfold SparseCore.Cfg.ownSems0
  rw [SparseCore.bigSep_erase' ((mem_ownCells (g := cellA d L)).mpr ⟨rfl, by
      show (SemLoc.dma cc0_scratch3.sem : SemLoc sig).isScoped .scVector = true; decide⟩),
    SparseCore.bigSep_erase' (Finset.mem_erase.mpr ⟨by simp [cellA, cellS]; decide, (mem_ownCells (g := cellS d L)).mpr ⟨rfl, by
      show (SemLoc.dma cc0_scratch4.sem : SemLoc sig).isScoped .scVector = true; decide⟩⟩),
    SparseCore.bigSep_erase' (Finset.mem_erase.mpr ⟨by simp [cellS, cellO]; decide, Finset.mem_erase.mpr ⟨by simp [cellA, cellO]; decide,
      (mem_ownCells (g := cellO d L)).mpr ⟨rfl, by show (SemLoc.dma cc0_scoped0.sem : SemLoc sig).isScoped .scVector = true; decide⟩⟩⟩)]

omit [FloatOps F] in
/-- The tile's own buffers are the three scratch buffers, each at some contents, together with the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- The tile's block of the input, as its own buffer holds it. -/
def sBlk (L : grid0.Coords) : S2048.Idx → F .f32 := fun x => s ((rowK L).emb x)
/-- The tile's block of the result, likewise. -/
def gBlk (L : grid0.Coords) : S2048.Idx → F .f32 := fun x => G s a ((rowK L).emb x)

omit [FloatOps F] in
theorem sBlk_read (f : Buf (Elt F) ((VT d L).loc cc0_scratch0)) :
    View.write (Elt F) (bS).view f (View.read (Elt F) (sRowK L).view s) Finset.univ = sBlk s L := by
  refine (View.write_whole_univ _ _ _).trans (funext fun x => ?_)
  exact (View.read_apply _ _).trans (cast_eq _ _)

omit [FloatOps F] in
theorem aBlk_read (f : Buf (Elt F) ((VT d L).loc cc0_scratch2)) :
    View.write (Elt F) (bA).view f (View.read (Elt F) (aV).view a) Finset.univ = a := by
  exact View.write_whole_univ _ _ _

omit [FloatOps F] in
theorem trips_eq : Scf.trips k0_t1_loop.lb k0_t1_loop.ub k0_t1_loop.st = 128 := by decide

/-- The two lane vectors the body reads from its copy of the staged table. -/
def lanes0 (a : S1040.Idx → F .f32) : Vec F S16 .f32 :=
  View.readAt (Elt F) (bA).view (Rect.unit (s := S1040) ![1008] S16.size inb_S1040_S16_1008).toLoadRect a
def lanes1 (a : S1040.Idx → F .f32) : Vec F S16 .f32 :=
  View.readAt (Elt F) (bA).view (Rect.unit (s := S1040) ![1024] S16.size inb_S1040_S16_1024).toLoadRect a

omit [FloatOps F] in
theorem lanes0_apply (x : S16.Idx) (n : S65536.Idx) (h : (n 0).val % 16 = (x 0).val) : lanes0 a x = a (lane0 (n 0).val) := by
  show a _ = a _
  congr 1
  funext i
  match i with
  | 0 => exact Fin.ext (show 1008 + 1 * (x 0).val = 1008 + (n 0).val % 16 by rw [h, one_mul])
omit [FloatOps F] in
theorem lanes1_apply (x : S16.Idx) (n : S65536.Idx) (h : (n 0).val % 16 = (x 0).val) : lanes1 a x = a (lane1 (n 0).val) := by
  show a _ = a _
  congr 1
  funext i
  match i with
  | 0 => exact Fin.ext (show 1024 + 1 * (x 0).val = 1024 + (n 0).val % 16 by rw [h, one_mul])

/-- What trip `k` stores. -/
def PAY (k : Fin k0_t1_loop.trips) : Vec F S16 .f32 :=
  k0_pay1 (lanes0 a) (lanes1 a)
    (View.readAt (Elt F) (bS).view (Rect.unit (s := S2048) (k0_off2 k) S16.size (k0_off2_inb k)).toLoadRect (sBlk s L))

/-- A trip's lane `x` holds the value of the block's entry `16 k + x`. -/
theorem PAY_value (k : Fin k0_t1_loop.trips) (x : S16.Idx) (y : S2048.Idx) (h : (y 0).val = 16 * k.val + (x 0).val) :
    PAY s a L k x = gBlk s a L y := by
  have hx := (x 0).isLt
  have hn : (((rowK L).emb y) 0).val % 16 = (x 0).val := by
    have : (((rowK L).emb y) 0).val = 4096 * (L 1).val + 2048 * (L 0).val + (y 0).val := by
      simp [Rect.emb, Rect.unit, k0_off1_eq]
    rw [this, h]
    have : (x 0).val < 16 := hx
    omega
  unfold PAY gBlk G
  rw [pay_apply, lanes0_apply a x _ hn, lanes1_apply a x _ hn]
  congr 1
  show sBlk s L _ = sBlk s L y
  congr 1
  funext i
  match i with
  | 0 => exact Fin.ext (show k0_off2 k 0 + 1 * (x 0).val = (y 0).val by rw [h, one_mul, k0_off2_eq]; rfl)

/-- After trip `k` the first `16 (k + 1)` entries hold their values. -/
theorem step_value (k : Fin k0_t1_loop.trips) (f : S2048.Idx → F .f32) (hf : ∀ x : S2048.Idx, (x 0).val < 16 * k.val → f x = gBlk s a L x) :
    ∀ x : S2048.Idx, (x 0).val < 16 * (k.val + 1) →
      ((bO).view.writes (Elt F) f
        [⟨Rect.unit (s := S2048) (k0_off2 k) S16.size (k0_off2_inb k), PAY s a L k⟩] : S2048.Idx → F .f32) x = gBlk s a L x := by
  intro y hy
  have key := View.read_writes_cons_unit (Val := Elt F) (bO).view f (k0_off2_inb k) (PAY s a L k) [] y (k0_off2_eq k)
  refine Eq.trans (show _ = View.read (Elt F) (bO).view _ y from rfl) (key.trans ?_)
  by_cases hk : 16 * k.val ≤ (y 0).val
  · rw [dif_pos (fun i => by match i with | 0 => exact ⟨hk, by simpa using (show (y 0).val < 16 * k.val + 16 by omega)⟩)]
    refine PAY_value s a L k _ y ?_
    show (y 0).val = 16 * k.val + ((y 0).val - 16 * k.val)
    omega
  · rw [dif_neg (fun h => hk (h 0).1)]
    exact hf y (by omega)

/-- The block copied out is the result's block. -/
theorem out_value (fo : Buf (Elt F) (oLoc d)) (f : S2048.Idx → F .f32) (hf : ∀ x, f x = gBlk s a L x) :
    ((oRowK L).view.loc (VT d L) ↦[(oRowK L).view.set]{fullShare}
        (oRowK L).view.writes (Elt F) fo [⟨Rect.whole S2048, View.read (Elt F) (bO).view (f : Buf (Elt F) ((VT d L).loc cc0_scratch1))⟩] : sProp 𝕄)
      = oRowPts d (wL L) (G s a) := by
  have e : ∀ i ∈ (oRowK L).view.set,
      (oRowK L).view.writes (Elt F) fo [⟨Rect.whole S2048, View.read (Elt F) (bO).view (f : Buf (Elt F) ((VT d L).loc cc0_scratch1))⟩] i
        = (G s a : Buf (Elt F) (oLoc d)) i := by
    intro i hi
    obtain ⟨x, -, rfl⟩ := Finset.mem_map.mp hi
    have h := congrFun (View.read_writes_whole (Val := Elt F) (oRowK L).view fo (View.read (Elt F) (bO).view (f : Buf (Elt F) ((VT d L).loc cc0_scratch1)))) x
    rw [View.read_apply] at h
    exact (cast_eq _ _).symm.trans (h.trans (hf x))
  rw [pointsTo_congr e]
  exact pts_oRowK d L _

/-- Before trip `k` the first `16 k` entries of the output buffer hold their values. -/
def inv (k : Nat) (_ : PUnit) : sProp 𝕄 :=
  iprop(((bS).view.loc (VT d L) ↦{fullShare} (sBlk s L : Buf (Elt F) ((VT d L).loc cc0_scratch0)))
    ∗ ∃ f : S2048.Idx → F .f32, ⌜∀ x : S2048.Idx, (x 0).val < 16 * k → f x = gBlk s a L x⌝
      ∗ (bO).view.loc (VT d L) ↦{fullShare} (f : Buf (Elt F) ((VT d L).loc cc0_scratch1)))

theorem tile_body (hF : (K (F := F)).Facts) (O : CellTallies nD τ sig (HIx 1)) (W : Waits sig (HIx 1)) (hO : ∀ g, O g none = 0) :
    iprop(levAts (K (F := F)).L (K (F := F)).lev ∗ emp ∗ tileIn s a o d (cL L) (jL L)
        ∗ scopedBufs (VT d L) ∗ scopedSems0 (VT d L) ∗ owes (VT d L) O W)
      ⊢ wp frame (wpE (defs₀ (F := F)) 𝒱₀ (VT d L) none) Set.univ
          (cc0__tec_body L sV (Memref.isWhole_whole _) aV (Memref.isWhole_whole _) oV (Memref.isWhole_whole _)
            bS (Memref.isWhole_whole _) bO (Memref.isWhole_whole _) bA (Memref.isWhole_whole _) cc0_scratch3 cc0_scratch4 cc0_scratch5 cc0_scratch6 cc0_scoped0)
          fun _ => iprop(tileOut s a d (cL L) (jL L)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold tileIn tileOut
  simp only [cc0__tec_body_eq_skeleton]; unfold cc0__tec_body_skel
  iintro ⟨#Hlv, -, ⟨Hs, Ha, Ho⟩, ⟨⟨%fs, Hbs⟩, ⟨%fo, Hbo⟩, ⟨%fa, Hba⟩, Hbufs⟩, ⟨HsemA, HsemS, HsemO, Hsems⟩, HO⟩
  ihave Hmw := (show levAts (K (F := F)).L (K (F := F)).lev ⊢ Transfers.MayWaits (VT d L) (default : HIx 1) O from
    (K (F := F)).mayWaits_none (thr := VT d L) hO) $$ Hlv
  ihave Hs' := (Entails.of_eq (pts_sRowK (F := F) d L _).symm) $$ Hs
  ihave Ho' := (Entails.of_eq (pts_oRowK (F := F) d L _).symm) $$ Ho
  ihave Ha' := (Entails.of_eq (pts_aV (F := F) d L _ _).symm) $$ Ha
  ihave Hbs' := (Entails.of_eq (pts_bS (F := F) d L _).symm) $$ Hbs
  ihave Hbo' := (Entails.of_eq (pts_bO (F := F) d L _).symm) $$ Hbo
  ihave Hba' := (Entails.of_eq (pts_bA (F := F) d L _).symm) $$ Hba
  sl_exec
  rw [show View.write (Elt F) (bS).view fs (tile_body.sl.dma0_1 s L) Finset.univ = sBlk s L from sBlk_read s d L fs,
    show View.write (Elt F) (bA).view fa (tile_body.sl.dma0 a) Finset.univ = a from aBlk_read a d L fa]
  sl_for (inv s a d L) $$ [Hbs' Hbo']
  case region =>
    intro k _
    unfold inv
    iintro ⟨Hbs, %f, %hf, Hbo⟩
    sl_exec
    sl_step
    isplitl [Hbs]; · iexact Hbs
    iexists ((bO).view.writes (Elt F) f [⟨Rect.unit (s := S2048) (k0_off2 k) S16.size (k0_off2_inb k), PAY s a L k⟩])
    isplitr
    · ipureintro; exact step_value s a L k f hf
    · iexact Hbo
  · unfold inv
    isplitl [Hbs']; · iexact Hbs'
    iexists fo
    isplitr
    · ipureintro; intro x hx; exact absurd hx (by omega)
    · iexact Hbo'
  iintro %_ HI
  unfold inv
  icases HI with ⟨Hbs, %f, %hf, Hbo⟩
  have hall : ∀ x, f x = gBlk s a L x := fun x => hf x (by have := (x 0).isLt; rw [trips_eq]; exact this)
  sl_exec
  sl_step
  isplitl [Hs' Ho']
  · isplitl [Hs']; · iapply (Entails.of_eq (pts_sRowK (F := F) d L _)); iexact Hs'
    iapply (Entails.of_eq (out_value s a d L o f hall)); iexact Ho'
  isplitl [Hbs Hbo Hba' Hbufs]
  · isplitl [Hbs]; · iexists _; iexact Hbs
    isplitl [Hbo]; · iexists _; iexact Hbo
    isplitl [Hba']; · iexists _; iexact Hba'
    iexact Hbufs
  isplitl [HsemA HsemS HsemO Hsems]
  · isplitl [HsemA]; · iexact HsemA
    isplitl [HsemS]; · iexact HsemS
    isplitl [HsemO]; · iexact HsemO
    iexact Hsems
  iexists _; isplitr
  swap; · iexact HO
  ipureintro; intro p _
  rcases p.2 with _ | q
  · exact .inr (.inl rfl)
  · exact .inr (.inr (congrArg some (Subsingleton.elim q 0)))

/-! ## The obligation -/

def coordsV (c : Fin (grid0.bound 0)) (i : Fin (grid0.bound 1)) : grid0.Coords :=
  fun | 0 => c | 1 => i | ⟨_ + 2, h⟩ => absurd h (Nat.not_lt.2 (Nat.le_add_left _ _))

theorem defs₀_vector (c : Fin τ.nSC) (i : Fin τ.nSub) :
    defs₀ (F := F) (.scVector c i) 0 ()
      = SparseCore.onTile hcore0 hsub0 (fun c i => cc0__tec_body (coordsV c i)
          sV (Memref.isWhole_whole _) aV (Memref.isWhole_whole _) oV (Memref.isWhole_whole _)
          bS (Memref.isWhole_whole _) bO (Memref.isWhole_whole _) bA (Memref.isWhole_whole _) cc0_scratch3 cc0_scratch4 cc0_scratch5 cc0_scratch6 cc0_scoped0) ⟨⟩ c i := rfl

theorem tileObl (hF : (K (F := F)).Facts) : (K (F := F)).TileObl (D (F := F)) 𝒱 (P s a o) v₀ 0 := by
  intro d c i O W hO _ _
  simp only [show (P s a o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body s a o d (coordsV ⟨_, hci.1⟩ ⟨_, hci.2⟩) hF O W hO

end Cert.Proof.Run

end
-- ==== Proof.Line.lean ====
/-
  The launch's host operations: they stage the table with the offset and the slope's reciprocal behind it, in lanes of sixteen.
-/
module

public import proofs.«01_k».proof.Proof.Tile
public import Idealize.ShloMosaic.Lib.StableHlo.RunRead
public import Idealize.ShloMosaic.Lib.Routing.Ops
public import Idealize.ShloMosaic.Lib.Pipeline.Value

@[expose] public section

noncomputable section

namespace Cert.Proof.Run

open Cert.KernelIdeal Cert.KernelIdeal.Gen

open Idealize.ShloMosaic Idealize.ShloMosaic.StableHlo
open Idealize.ShloMosaic.ValueIdx
open Idealize.SL.Sem

variable {F : FTy → Type} [FloatOps F]

/-- The twelve operations that compute the pieces of the staged table. -/
def pieces : List (HloOp τ sig (Elt F)) :=
  [ StableHlo.unary main_arg1 main_v0 ((extractStridedSlice S1 ![0] · slices_S1000_S1_0) : (⟨S1000, .f32⟩ : BufTy).Contents (Elt F) → (⟨S1, .f32⟩ : BufTy).Contents (Elt F)),
    StableHlo.reshape main_v0 main_v1 (rfl : (.f32 : EltTy) = .f32) shapeCasts_S1_S_,
    StableHlo.unary main_arg1 main_v2 ((extractStridedSlice S1 ![999] · slices_S1000_S1_999) : (⟨S1000, .f32⟩ : BufTy).Contents (Elt F) → (⟨S1, .f32⟩ : BufTy).Contents (Elt F)),
    StableHlo.reshape main_v2 main_v3 (rfl : (.f32 : EltTy) = .f32) shapeCasts_S1_S_,
    StableHlo.binary main_v3 main_v1 main_v4 (subf : (⟨S_, .f32⟩ : BufTy).Contents (Elt F) → (⟨S_, .f32⟩ : BufTy).Contents (Elt F) → (⟨S_, .f32⟩ : BufTy).Contents (Elt F)),
    StableHlo.nullary main_cst (constant S_ .f32 0x4479C000#32),
    StableHlo.binary main_cst main_v4 main_v5 (Host.divf : (⟨S_, .f32⟩ : BufTy).Contents (Elt F) → (⟨S_, .f32⟩ : BufTy).Contents (Elt F) → (⟨S_, .f32⟩ : BufTy).Contents (Elt F)),
    StableHlo.nullary main_cst_0 (constant S_ .f32 0x7149F2CA#32),
    StableHlo.unary main_cst_0 main_v6 (broadcastInDim S8 ![] bcast_S_S8 : (⟨S_, .f32⟩ : BufTy).Contents (Elt F) → (⟨S8, .f32⟩ : BufTy).Contents (Elt F)),
    StableHlo.binary main_v1 main_v5 main_v7 (mulf : (⟨S_, .f32⟩ : BufTy).Contents (Elt F) → (⟨S_, .f32⟩ : BufTy).Contents (Elt F) → (⟨S_, .f32⟩ : BufTy).Contents (Elt F)),
    StableHlo.unary main_v7 main_v8 (broadcastInDim S16 ![] bcast_S_S16 : (⟨S_, .f32⟩ : BufTy).Contents (Elt F) → (⟨S16, .f32⟩ : BufTy).Contents (Elt F)),
    StableHlo.unary main_v5 main_v9 (broadcastInDim S16 ![] bcast_S_S16 : (⟨S_, .f32⟩ : BufTy).Contents (Elt F) → (⟨S16, .f32⟩ : BufTy).Contents (Elt F)) ]

/-- The thirteenth puts them side by side. -/
def stage : HloOp τ sig (Elt F) :=
  StableHlo.nary ![main_arg1, main_v6, main_v8, main_v9] main_v10 (fun u => (concatenate S1040 0 [⟨S1000, (u 0 : (⟨S1000, .f32⟩ : BufTy).Contents (Elt F))⟩, ⟨S8, (u 1 : (⟨S8, .f32⟩ : BufTy).Contents (Elt F))⟩, ⟨S16, (u 2 : (⟨S16, .f32⟩ : BufTy).Contents (Elt F))⟩, ⟨S16, (u 3 : (⟨S16, .f32⟩ : BufTy).Contents (Elt F))⟩] concatenates_S1000_S8_S16_S16_S1040_d0 : (⟨S1040, .f32⟩ : BufTy).Contents (Elt F)))

/-- The operations before the launch, in order. -/
def line : List (HloOp τ sig (Elt F)) := pieces ++ [stage]

theorem main_eq (d : Dev nD) : main (F := F) d = seq line >>= fun _ => (sc.run d 0 >>= fun _ => pure ⟨⟩) := rfl

/-! ## What they compute -/

/-- The table's first and last entry. -/
def firstA (t : S1000.Idx → F .f32) : S_.Idx → F .f32 := fun _ => t (ix1 0)
def lastA (t : S1000.Idx → F .f32) : S_.Idx → F .f32 := fun _ => t (ix1 999)
/-- 999 over the table's extent. -/
def invA (t : S1000.Idx → F .f32) : S_.Idx → F .f32 := Host.divf (constant S_ .f32 0x4479C000#32) (subf (lastA t) (firstA t))
/-- The first entry times it. -/
def offA (t : S1000.Idx → F .f32) : S_.Idx → F .f32 := mulf (firstA t) (invA t)

variable (V : Valuation τ sig (Elt F))

theorem slice_first (t : S1000.Idx → F .f32) : shapeCast S_ (extractStridedSlice S1 ![0] t slices_S1000_S1_0) shapeCasts_S1_S_ = firstA t := by
  funext i
  rw [shapeCast_apply _ _ i (ix1 (0 : Fin 1)) (by decide +revert)]
  show t _ = t _
  exact congrArg t (funext fun a => match a with | 0 => rfl)
theorem slice_last (t : S1000.Idx → F .f32) : shapeCast S_ (extractStridedSlice S1 ![999] t slices_S1000_S1_999) shapeCasts_S1_S_ = lastA t := by
  funext i
  rw [shapeCast_apply _ _ i (ix1 (0 : Fin 1)) (by decide +revert)]
  show t _ = t _
  exact congrArg t (funext fun a => match a with | 0 => rfl)

theorem pieces_v8 : after (pieces (F := F)) V (Proc.devRef .tc main_v8) = broadcastInDim S16 ![] bcast_S_S16 (offA (V (Proc.devRef .tc main_arg1))) := by
  unfold pieces
  after_reads_simp
  unfold offA invA
  rw [← slice_first, ← slice_last]
  rfl
theorem pieces_v9 : after (pieces (F := F)) V (Proc.devRef .tc main_v9) = broadcastInDim S16 ![] bcast_S_S16 (invA (V (Proc.devRef .tc main_arg1))) := by
  unfold pieces
  after_reads_simp
  unfold invA
  rw [← slice_first, ← slice_last]
  rfl

theorem line_unwritten : (after (line (F := F)) V (Proc.devRef .tc main_arg0) = V (Proc.devRef .tc main_arg0))
    ∧ after (line (F := F)) V (Proc.devRef .tc main_arg1) = V (Proc.devRef .tc main_arg1) := by
  constructor <;> (unfold line pieces stage; after_reads_simp)

/-- The staged table. -/
def aux : S1040.Idx → F .f32 := after (line (F := F)) V (Proc.devRef .tc main_v10)

theorem aux_eq : aux V = concatenate S1040 0 [⟨S1000, after (pieces (F := F)) V (Proc.devRef .tc main_arg1)⟩, ⟨S8, after (pieces (F := F)) V (Proc.devRef .tc main_v6)⟩,
    ⟨S16, after (pieces (F := F)) V (Proc.devRef .tc main_v8)⟩, ⟨S16, after (pieces (F := F)) V (Proc.devRef .tc main_v9)⟩] concatenates_S1000_S8_S16_S16_S1040_d0 := by
  refine (show aux V = stage.result (after (pieces (F := F)) V) (Proc.devRef .tc main_v10) from ?_).trans ((nary_result _ _ _ _ _ _).trans rfl)
  unfold aux line
  rw [after_append]
  rfl

theorem aux_lane0 (n : ℕ) : aux V (lane0 n) = offA (V (Proc.devRef .tc main_arg1)) ix0 := by
  rw [aux_eq, concatenate_apply_piece 0 _ _ (lane0 n) 2 (by simp) S16 _ rfl rfl 1008 rfl (ix1 ⟨n % 16, Nat.mod_lt _ (by decide)⟩)
    (fun b h => absurd (Subsingleton.elim _ _) h) rfl, pieces_v8]
  exact Routing.bc0 _ _ _
theorem aux_lane1 (n : ℕ) : aux V (lane1 n) = invA (V (Proc.devRef .tc main_arg1)) ix0 := by
  rw [aux_eq, concatenate_apply_piece 0 _ _ (lane1 n) 3 (by simp) S16 _ rfl rfl 1024 rfl (ix1 ⟨n % 16, Nat.mod_lt _ (by decide)⟩)
    (fun b h => absurd (Subsingleton.elim _ _) h) rfl, pieces_v9]
  exact Routing.bc0 _ _ _

/-- The kernel's result, from the input and the table. -/
def R (s : S65536.Idx → F .f32) (t : S1000.Idx → F .f32) : S65536.Idx → F .f32 := fun n => tval (offA t ix0) (invA t ix0) (s n)

theorem G_aux (s : S65536.Idx → F .f32) : G s (aux V) = R s (V (Proc.devRef .tc main_arg1)) := by
  funext n
  unfold G R
  rw [aux_lane0, aux_lane1]

end Cert.Proof.Run

end
-- ==== Proof.Main.lean ====
/-
  The launch: the host stages the table (Line.lean), the 32 tiles run (Tile.lean), and the result array is read off. From it the program's run over any float values,
  with the two arguments unchanged and every counter at zero again.
-/
module

public import proofs.«01_k».proof.Proof.Line
public import proofs.«01_k».proof.Defs
public import proofs.«01_k».proof.Proof.Gen.Kernel

@[expose] public section

noncomputable section

namespace Cert.Proof.Run

open Cert.KernelIdeal Cert.KernelIdeal.Gen

open Idealize.ShloMosaic Idealize.ShloMosaic.StableHlo
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (s : S65536.Idx → F .f32) (a : S1040.Idx → F .f32) (o : S65536.Idx → F .f32) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P s a o).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P s a o).x q thr) = bigSep Finset.univ fun _ => iprop(emp) from
    bigSep_congr fun _ _ => bigSep_univ_of_subsingleton (0 : Fin 1), bigSep_emp']
  iempintro

/-! ## The host's part -/

/-- The device's arrays as the launch finds them. -/
def V0 (d : Dev nD) : Valuation τ sig (Elt F) := fun b => m (d, b)

abbrev tLoc (d : Dev nD) : Loc nD τ sig := (SparseCore.T d).loc main_arg1

/-- The host's arrays that the operations before the launch touch without the kernel using them. -/
abbrev rest : Finset (DevRef τ sig) :=
  {Proc.devRef .tc main_v0, Proc.devRef .tc main_v1, Proc.devRef .tc main_v2, Proc.devRef .tc main_v3, Proc.devRef .tc main_v4, Proc.devRef .tc main_cst,
    Proc.devRef .tc main_v5, Proc.devRef .tc main_cst_0, Proc.devRef .tc main_v6, Proc.devRef .tc main_v7, Proc.devRef .tc main_v8, Proc.devRef .tc main_v9}
abbrev arrays : Finset (DevRef τ sig) :=
  insert (Proc.devRef .tc main_arg0) (insert (Proc.devRef .tc main_v10) (insert (Proc.devRef .tc main_v11) (insert (Proc.devRef .tc main_arg1) rest)))

omit [FloatOps F] in
theorem held_arrays (d : Dev nD) (W : Valuation τ sig (Elt F)) :
    (held (T d) arrays W : sProp 𝕄)
      = iprop((sLoc d ↦{fullShare} W (Proc.devRef .tc main_arg0)) ∗ (aLoc d ↦{fullShare} W (Proc.devRef .tc main_v10))
          ∗ (oLoc d ↦{fullShare} W (Proc.devRef .tc main_v11)) ∗ (tLoc d ↦{fullShare} W (Proc.devRef .tc main_arg1)) ∗ held (T d) rest W) := by
  unfold held arrays
  rw [SparseCore.bigSep_insert' (by decide), SparseCore.bigSep_insert' (by decide), SparseCore.bigSep_insert' (by decide),
    SparseCore.bigSep_insert' (by decide)]

omit [FloatOps F] in
theorem unscoped_held (d : Dev nD) : (unscopedBufs d (fun b => m ((SparseCore.T d).loc b)) : sProp 𝕄) = held (T d) arrays (V0 m d) := by
  unfold unscopedBufs held
  rw [show arrays = (Finset.univ.filter fun b : Ref sig .tc => ¬ b.isScoped).map ⟨Proc.devRef (.tc : Proc τ), Proc.devRef_injective _⟩ by decide]
  rw [bigSep_map]
  rfl

/-- An operation between arrays of the list touches arrays of the list only. -/
theorem line_sub : ∀ op ∈ line (F := F), op.bufs ⊆ arrays := by
  refine List.forall_iff_forall_mem.mp ?_
  unfold line pieces stage
  simp only [List.cons_append, List.nil_append, List.forall_cons, List.Forall, unary_bufs, binary_bufs, nullary_bufs, reshape_bufs]
  refine ⟨?_, ?_, ?_, ?_, ?_, ?_, ?_, ?_, ?_, ?_, ?_, ?_, ?_⟩
  iterate 12 decide
  show insert (Proc.devRef (τ := τ) .tc main_v10) (Finset.univ.image fun k => Proc.devRef .tc (![main_arg1, main_v6, main_v8, main_v9] k)) ⊆ arrays
  decide

theorem line_fresh : ∀ op ∈ line (F := F), op.fresh = ∅ :=
  List.forall_iff_forall_mem.mp (forall_fresh_of_map rfl)

/-- The held arrays after the line. -/
theorem held_line (d : Dev nD) :
    (held (T d) arrays (after (line (F := F)) (V0 m d)) : sProp 𝕄)
      = iprop((sLoc d ↦{fullShare} m (sLoc d)) ∗ (aLoc d ↦{fullShare} (aux (V0 m d) : Buf (Elt F) (aLoc d)))
          ∗ (oLoc d ↦{fullShare} after (line (F := F)) (V0 m d) (Proc.devRef .tc main_v11)) ∗ (tLoc d ↦{fullShare} m (tLoc d))
          ∗ held (T d) rest (after (line (F := F)) (V0 m d))) := by
  rw [held_arrays, (line_unwritten (V0 m d)).1, (line_unwritten (V0 m d)).2]
  rfl

/-! ## @main -/

/-- There is one device. -/
abbrev d0 : Dev nD := 0
abbrev s0 : S65536.Idx → F .f32 := m (sLoc d0)
abbrev a0 : S1040.Idx → F .f32 := aux (V0 m d0)
abbrev o0 : S65536.Idx → F .f32 := after (line (F := F)) (V0 m d0) (Proc.devRef .tc main_v11)

/-- What the host keeps at the end: the arguments as they were, the result at its values. -/
abbrev FIN (d : Dev nD) : sProp 𝕄 :=
  iprop((sLoc d ↦{fullShare} m (sLoc d)) ∗ (tLoc d ↦{fullShare} m (tLoc d)) ∗ oLoc d ↦{fullShare} (R (m (sLoc d)) (m (tLoc d)) : Buf (Elt F) (oLoc d)))

theorem hmain (κ : GSem nD τ sig → ℕ) (d : Dev nD) :
    iprop((K (F := F)).ctx EH (P (s0 m) (a0 m) (o0 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain rfl : d = d0 := Subsingleton.elim _ _
  unfold SparseCore.Cfg.tcRes SparseCore.Cfg.tcEnd
  rw [unscoped_held, main_eq]
  iintro ⟨#Hctx, Hst, ⟨Hb, Hheld, Hts, -⟩, -⟩
  iapply (wp_seq (defs := (K (F := F)).defs (D (F := F))) (bd := none) (E := Set.univ) 𝒱 d0 arrays _ line line_sub line_fresh (V0 m d0)) $$ [Hb Hheld]
  · isplitl [Hb]; · iexact Hb
    iexact Hheld
  iintro ⟨Hb, Hheld⟩
  ihave Hh := (Entails.of_eq (held_line (F := F) m d0)) $$ Hheld
  icases Hh with ⟨Hs, Ha, Ho, Ht, -⟩
  rw [wp_bind]
  iapply ((K (F := F)).wp_run (D (F := F)) 𝒱 (EH := EH) (P := P (s0 m) (a0 m) (o0 m)) κ d0 0) $$ [Hst Hs Ha Ho Ht Hb Hts]
  isplitr; · iexact Hctx
  isplitl [Hst]; · iexact Hst
  isplitl [Hs Ha Ho]
  · rw [st0_eq]
    isplitl [Hs]; · iexact Hs
    isplitl [Ha]; · iexact Ha
    iexact Ho
  iintro ⟨Hst, Hdn⟩
  ihave Hdn' := (Entails.of_eq (dn0_eq (s0 m) (a0 m) (o0 m) d0)) $$ Hdn
  icases Hdn' with ⟨Hs, Ho⟩
  rw [wp_pure]
  imodintro
  isplitl [Hst]; · iexact Hst
  isplitr [Hb Hts]
  · isplitl [Hs]; · iexact Hs
    isplitl [Ht]; · iexact Ht
    iapply (Entails.of_eq (congrArg (fun f => (oLoc d0 ↦{fullShare} (f : Buf (Elt F) (oLoc d0)) : sProp 𝕄)) (G_aux (V0 m d0) (s0 m))))
    iexact Ho
  isplitl [Hb] <;> iassumption

/-! ## The run -/

/-- What a final memory satisfies on device `d`. -/
def fq (d : Dev nD) (s' : Phys nD τ sig (Elt F)) : Prop :=
  s'.mem.mem (oLoc d) = R (m (sLoc d)) (m (tLoc d)) ∧ s'.mem.mem (sLoc d) = m (sLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hs, Ht, Ho⟩, HSI⟩
  ihave H := (persistent_entails_right (SI_pointsTo_agree (st := s') (ℓ := sLoc d) (I := Finset.univ) (q := fullShare) (f := m (sLoc d)))) $$ [HSI Hs]
  · isplitl [HSI] <;> iassumption
  icases H with ⟨%hs, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := oLoc d) (I := Finset.univ) (q := fullShare) (f := (R (m (sLoc d)) (m (tLoc d)) : Buf (Elt F) (oLoc d)))) $$ [HSI Ho]
  · isplitl [HSI] <;> iassumption
  icases H with %ho
  ipureintro
  exact ⟨funext fun i => ho i (Finset.mem_univ i), funext fun i => hs i (Finset.mem_univ i), funext fun i => ht i (Finset.mem_univ i)⟩

def QC : PUnit × MemSt nD τ sig (Elt F) → Prop := fun r =>
  (∀ c : Dev nD, r.2.mem (oLoc c) = R (m (sLoc c)) (m (tLoc c)) ∧ r.2.mem (sLoc c) = m (sLoc c) ∧ r.2.mem (tLoc c) = m (tLoc c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (s0 m) (a0 m) (o0 m)) (A := ∅) facts v₀
    (fun q hq => match q with | 0 => nomatch hq)
    (fun q _ => match q with | 0 => tileObl _ _ _ facts)
    (fun q _ => match q with | 0 => SparseCore.Cfg.VecSplit.of_plain (vecSplit _ _ _))
    m ρ main (fun _ => iprop(emp)) (FIN m) (u₀ (F := F)) (sep_elim_left.trans (hu₀ _ _ _)) (hmain m ρ) (fq m) (hfin m) (QC m) (fun _ h hz => ⟨h, hz⟩)

/-- The kernel runs on words, its arguments unchanged, every counter back at zero: the run above at words. -/
theorem frame_kernel : Cert.quiescent_Kernel := fun m ρ _ =>
  (θ_run Cert.KernelIdeal.defs _ _).mono (fun _ h => ⟨fun c => (h.1 c).2, h.2⟩) (run_main (F := Bits) m ρ)

/-- The same of the program read over the extended reals. -/
theorem frame_ideal : Cert.quiescent_KernelIdeal := fun m ρ _ =>
  (θ_run Cert.KernelIdeal.defs _ _).mono (fun _ h => ⟨fun c => (h.1 c).2, h.2⟩) (run_main (F := Ideal) m ρ)

end Cert.Proof.Run

end
-- ==== Proof.Equal.lean ====
/-
  For an evenly spaced table the kernel's result is the reference's: the precondition read as equal positive differences, the kernel's two staged numbers read as `1 / d`
  and `a / d`, and the equation of Spaced.lean applied at every entry.
-/
module

public import proofs.«01_k».proof.Proof.Spaced
public import proofs.«01_k».proof.Proof.Main
public import proofs.«01_k».proof.Proof.Gen.Pre_evenly_spaced
public import Idealize.ShloMosaic.Lib.ReduceAll

@[expose] public section

noncomputable section

namespace Cert.Proof.Equal

open Idealize.ShloMosaic Idealize.ShloMosaic.StableHlo Idealize.ShloMosaic.ValueIdx
open Cert.Proof.Ref (entry entry_fin)

section Pre
open Cert.Pre_evenly_spaced Cert.Pre_evenly_spaced.Gen

variable (s : S65536.Idx → EReal) (t : S1000.Idx → EReal)

/-- The difference of two neighbours. -/
def gaps : S999.Idx → EReal := subf (F := Ideal) (φ := .f32) (extractStridedSlice S999 ![1] t slices_S1000_S999_1) (extractStridedSlice S999 ![0] t slices_S1000_S999_0)

theorem gaps_apply (i : Fin 999) : gaps t (ix1 i) = entry t (i.val + 1) - entry t i.val := by
  have h := i.isLt
  have e1 : extractStridedSlice S999 ![1] t slices_S1000_S999_1 (ix1 i) = entry t (i.val + 1) :=
    (Routing.slice1 1 t slices_S1000_S999_1 i (by omega)).trans ((entry_fin t _).trans (congrArg (entry t) (by show 1 + i.val = i.val + 1; omega)))
  have e0 : extractStridedSlice S999 ![0] t slices_S1000_S999_0 (ix1 i) = entry t i.val :=
    (Routing.slice1 0 t slices_S1000_S999_0 i (by omega)).trans ((entry_fin t _).trans (congrArg (entry t) (by show 0 + i.val = i.val; omega)))
  exact congrArg₂ (fun a b : EReal => a - b) e1 e0

theorem first_gap : shapeCast S_ (extractStridedSlice S1 ![0] (gaps t) slices_S999_S1_0) shapeCasts_S1_S_ ix0 = gaps t (ix1 0) := by
  rw [shapeCast_apply _ _ ix0 (ix1 (0 : Fin 1)) (by decide)]
  exact (Routing.slice1 0 (gaps t) slices_S999_S1_0 0 (by decide)).trans (congrArg (fun k => gaps t (ix1 k)) (Fin.ext rfl))

/-- What the precondition says of the table. -/
theorem pre_spaced (h : Cert.Pre_evenly_spaced.fn (F := Ideal) s t = fun _ => 1#1) :
    ∃ a d : ℝ, 0 < d ∧ ∀ i, i ≤ 999 → entry t i = ((a + i * d : ℝ) : EReal) := by
  have h0 : IntOp.andi (Host.reduce IntOp.andi (cmpf (F := Ideal) (φ := .f32) .oeq (gaps t) (broadcastInDim S999 ![] bcast_S_S999 (shapeCast S_ (extractStridedSlice S1 ![0] (gaps t) slices_S999_S1_0) shapeCasts_S1_S_)))
      (constantI S_ 1 1#1) reducesTo_S999_S_d0 h_S_ ix0)
      (Ideal.cmp .ogt (shapeCast S_ (extractStridedSlice S1 ![0] (gaps t) slices_S999_S1_0) shapeCasts_S1_S_ ix0) (Ideal.ofBits .f32 0x00000000#32)) = 1#1 := congrFun h ix0
  obtain ⟨hall, hpos⟩ := IntOp.andi_eq_one.1 h0
  rw [first_gap, Ideal.ofBits_zero_f32] at hpos
  have hpos' : 0 < gaps t (ix1 0) := by
    have := (Predicate.ofBool_eq_one_iff _).1 hpos
    exact of_decide_eq_true this
  refine Spaced.arith (entry t) (gaps t (ix1 0)) (fun i hi => ?_) hpos'
  haveI : Subsingleton S_.Idx := ⟨fun x y => (eq_ix0 x).trans (eq_ix0 y).symm⟩
  have hi' := Host.reduce_andi_all _ _ _ _ _ hall (ix1 ⟨i, hi⟩)
  have e : Ideal.cmp .oeq (gaps t (ix1 ⟨i, hi⟩)) (gaps t (ix1 0)) = 1#1 :=
    (congrArg (Ideal.cmp .oeq (gaps t (ix1 ⟨i, hi⟩))) ((Routing.bc0 bcast_S_S999 _ _).trans (first_gap t)).symm).trans hi'
  have := of_decide_eq_true ((Predicate.ofBool_eq_one_iff _).1 e)
  rw [← this, gaps_apply]

end Pre

open Cert.KernelIdeal Cert.Proof.Run

theorem ofBits_999 : Ideal.ofBits .f32 0x4479C000#32 = ((999 : ℝ) : EReal) := by
  simp [Ideal.ofBits, Ideal.ieee]
  rw [← EReal.coe_mul]
  norm_num

/-- The number the kernel stores, over the extended reals. -/
theorem tval_ideal (c inv x : EReal) : tval (F := Ideal) c inv x = min ((999 : ℝ) : EReal) (max 0 (Ideal.log x * inv - c)) := by
  rw [← ofBits_999, ← Ideal.ofBits_zero_f32]
  rfl

/-- The kernel's result is the reference's. -/
theorem eq (s : S65536.Idx → EReal) (t : S1000.Idx → EReal) (h : Cert.Pre_evenly_spaced.fn (F := Ideal) s t = fun _ => 1#1) :
    R (F := Ideal) s t = Ref.outA (F := Ideal) s t := by
  obtain ⟨a, d, hd, he⟩ := pre_spaced s t h
  funext n
  obtain ⟨j, rfl⟩ : ∃ j : Fin 65536, n = ix1 j := ⟨n 0, eq_ix1 n⟩
  obtain ⟨L, hL, h1, h2, hout⟩ := Ref.outA_apply s t j
  rw [hout]
  rw [he 999 le_rfl, he L (by omega)] at h1
  rw [he (L + 1) (by omega)] at h2
  rw [he L (by omega), he (L + 1) (by omega), Spaced.interp_eq a d hd _ L hL h1 h2]
  have hfirst : firstA (F := Ideal) t ix0 = (a : EReal) := (entry_fin t 0).trans ((he 0 (by omega)).trans (by norm_num))
  have hlast : lastA (F := Ideal) t ix0 = ((a + (999 : ℕ) * d : ℝ) : EReal) := (entry_fin t 999).trans (he 999 le_rfl)
  have hinv : invA (F := Ideal) t ix0 = ((1 / d : ℝ) : EReal) := by
    have e : invA (F := Ideal) t ix0 = Ideal.div (Ideal.ofBits .f32 0x4479C000#32) (lastA (F := Ideal) t ix0 - firstA (F := Ideal) t ix0) := rfl
    rw [e, hfirst, hlast, ofBits_999, ← EReal.coe_sub, Ideal.div_coe (by push_cast; linarith), ← EReal.coe_mul]
    congr 1
    push_cast
    field_simp
    ring
  have hoff : offA (F := Ideal) t ix0 = (a : EReal) * ((1 / d : ℝ) : EReal) := by
    have e : offA (F := Ideal) t ix0 = firstA (F := Ideal) t ix0 * invA (F := Ideal) t ix0 := rfl
    rw [e, hfirst, hinv]
  unfold R
  rw [tval_ideal, hinv, hoff]

end Cert.Proof.Equal

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_evenly_spaced
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs to its end, leaves its arguments, and has no semaphore. -/
theorem frame_reference : Cert.quiescent_ReferenceIdeal := fun m ρ _ =>
  (θ_run Cert.ReferenceIdeal.defs _ _).mono
    (fun r h => ⟨fun c => ⟨(h c Cert.ReferenceIdeal.main_arg0).trans (Ref.arg0_eq _), (h c Cert.ReferenceIdeal.main_arg1).trans (Ref.arg1_eq _)⟩,
      sem_eq_zero_of_no_sems (by decide) r.2⟩)
    (Ref.run_main (F := Ideal) m ρ)

/-- For an evenly spaced table the kernel and the reference end with the same result. -/
theorem algebraic : Cert.algebraic_KernelIdeal_ReferenceIdeal_pre_evenly_spaced := fun m g m' g' hpre hargs =>
  ⟨fun c => Run.R (F := Ideal) (m (Run.sLoc c)) (m (Run.tLoc c)),
    (θ_run Cert.KernelIdeal.defs _ _).mono (fun _ h => h.1) (Run.run_main (F := Ideal) m g),
    (θ_run Cert.ReferenceIdeal.defs _ _).mono
      (fun r h c => ⟨by
        refine ((h c Cert.ReferenceIdeal.main_v38).trans (Ref.out_eq _)).trans ?_
        refine Eq.trans ?_ (Equal.eq (m (Run.sLoc c)) (m (Run.tLoc c)) (hpre c)).symm
        exact congrArg₂ (Ref.outA (F := Ideal)) (hargs c).1 (hargs c).2,
        (h c Cert.ReferenceIdeal.main_arg0).trans (Ref.arg0_eq _), (h c Cert.ReferenceIdeal.main_arg1).trans (Ref.arg1_eq _)⟩)
      (Ref.run_main (F := Ideal) m' g')⟩

theorem claim : Cert.Claim := ⟨Cert.Kernel.Gen.facts, Cert.KernelIdeal.Gen.facts, Cert.ReferenceIdeal.Gen.facts, Cert.Pre_evenly_spaced.Gen.facts,
  Run.frame_kernel, Run.frame_ideal, fun m g _ => Run.frame_ideal m g trivial, frame_reference, fun m g _ => frame_reference m g trivial, trivial, algebraic⟩

end Cert.Proof

end
